-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rotations_finite [hPre_rotations_finite : Cert.Pre_rotations_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rotations_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rotations_finite [hPre_rotations_finite : Cert.Pre_rotations_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotations_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rotations_finite [hKernelIdeal : Cert.KernelIdeal.Facts] [hPre_rotations_finite : Cert.Pre_rotations_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotations_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rotations_finite [hReferenceIdeal : Cert.ReferenceIdeal.Facts] [hPre_rotations_finite : Cert.Pre_rotations_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotations_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "k_reg" .f32 0x3C55E621#32 ((10513561 / 805306368 : ℝ) : EReal)
  ∧ IdealRules.named_const.Statement Cert.KernelIdeal.κ "k_out" .f32 0x3D206C99#32 ((10513561 / 268435456 : ℝ) : EReal)

def algebraic_KernelIdeal_ReferenceIdeal_pre_rotations_finite [hKernelIdeal : Cert.KernelIdeal.Facts] [hReferenceIdeal : Cert.ReferenceIdeal.Facts] [hPre_rotations_finite : Cert.Pre_rotations_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotations_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rotations_finite : Cert.Pre_rotations_finite.Facts),
    quiescent_Kernel (hKernel := hKernel)
    ∧ quiescent_KernelIdeal (hKernelIdeal := hKernelIdeal)
    ∧ quiescent_KernelIdeal_pre_rotations_finite (hKernelIdeal := hKernelIdeal) (hPre_rotations_finite := hPre_rotations_finite)
    ∧ quiescent_ReferenceIdeal (hReferenceIdeal := hReferenceIdeal)
    ∧ quiescent_ReferenceIdeal_pre_rotations_finite (hReferenceIdeal := hReferenceIdeal) (hPre_rotations_finite := hPre_rotations_finite)
    ∧ preserves_Kernel_KernelIdeal
    ∧ algebraic_KernelIdeal_ReferenceIdeal_pre_rotations_finite (hKernelIdeal := hKernelIdeal) (hReferenceIdeal := hReferenceIdeal) (hPre_rotations_finite := hPre_rotations_finite)
-- ==== Pre_rotations_finite.lean ====
abbrev S2x16x4096x128 : Shape := ⟨4, ![2, 16, 4096, 128]⟩
abbrev S96x96 : Shape := ⟨2, ![96, 96]⟩
abbrev S32x32 : Shape := ⟨2, ![32, 32]⟩
abbrev S_ : Shape := ⟨0, ![]⟩

class Facts : Prop where
  bcast_S_S96x96 : S_.BroadcastsInDim S96x96 (![] : Fin 0 → Fin S96x96.rank)
  reducesTo_S96x96_S_d0_1 : S96x96.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S2x16x4096x128 .f32) (main_arg1 : FVec F S96x96 .f32) (main_arg2 : FVec F S96x96 .f32) (main_arg3 : FVec F S32x32 .f32) (main_arg4 : FVec F S32x32 .f32) : IVec S_ 1 :=
  let main_v0 : FVec F S96x96 .f32 := Host.absf main_arg1
  let main_cst : FVec F S_ .f32 := constant S_ .f32 0x7F800000#32
  let main_v1 : FVec F S96x96 .f32 := broadcastInDim S96x96 ![] bcast_S_S96x96 main_cst
  let main_v2 : IVec S96x96 1 := cmpf .olt main_v0 main_v1
  let main_c : IVec S_ 1 := constantI S_ 1 1#1
  let main_v3 : IVec S_ 1 := (fun x v => Host.reduce IntOp.andi x v reducesTo_S96x96_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  main_v8
-- ==== Kernel.lean ====
abbrev S2x16x4096x128 : Shape := ⟨4, ![2, 16, 4096, 128]⟩
abbrev S96x96 : Shape := ⟨2, ![96, 96]⟩
abbrev S32x32 : Shape := ⟨2, ![32, 32]⟩
abbrev S32x4096x128 : Shape := ⟨3, ![32, 4096, 128]⟩
abbrev S_ : Shape := ⟨0, ![]⟩
abbrev S128x128 : Shape := ⟨2, ![128, 128]⟩
abbrev S1 : Shape := ⟨1, ![1]⟩
abbrev S2 : Shape := ⟨1, ![2]⟩
abbrev S1x4096x128 : Shape := ⟨3, ![1, 4096, 128]⟩
abbrev S4096x128 : Shape := ⟨2, ![4096, 128]⟩
abbrev S128 : Shape := ⟨1, ![128]⟩
abbrev S1x128 : Shape := ⟨2, ![1, 128]⟩
abbrev S128x1 : Shape := ⟨2, ![128, 1]⟩
abbrev S4096x96 : Shape := ⟨2, ![4096, 96]⟩
abbrev S4096 : Shape := ⟨1, ![4096]⟩
abbrev S4096x1 : Shape := ⟨2, ![4096, 1]⟩
abbrev S4096x32 : Shape := ⟨2, ![4096, 32]⟩

abbrev nBuf : Space → Nat
  | .hbm => 37
  | .vmem => 7
  | .smem => 0
  | _ => 0

abbrev bufTy : (tb : Table) → Fin (tcTables nBuf tb) → BufTy
  | .hbm, ⟨0, _⟩ => ⟨S2x16x4096x128, .f32⟩
  | .hbm, ⟨1, _⟩ => ⟨S96x96, .f32⟩
  | .hbm, ⟨2, _⟩ => ⟨S96x96, .f32⟩
  | .hbm, ⟨3, _⟩ => ⟨S32x32, .f32⟩
  | .hbm, ⟨4, _⟩ => ⟨S32x32, .f32⟩
  | .hbm, ⟨5, _⟩ => ⟨S32x4096x128, .f32⟩
  | .hbm, ⟨6, _⟩ => ⟨S_, .f32⟩
  | .hbm, ⟨7, _⟩ => ⟨S128x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S128x128, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S128x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S128x128, .f32⟩
  | .hbm, ⟨34, _⟩ => ⟨S128x128, .f32⟩
  | .hbm, ⟨35, _⟩ => ⟨S32x4096x128, .f32⟩
  | .hbm, ⟨36, _⟩ => ⟨S2x16x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x4096x128, .f32⟩
  | .local _ .vmem, ⟨6, _⟩ => ⟨S1x4096x128, .f32⟩
  | _, _ => ⟨S2x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_c : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_cst_3 : Ref sig .tc := ⟨.hbm, 20, rfl⟩
abbrev main_call0_v10 : Ref sig .tc := ⟨.hbm, 21, rfl⟩
abbrev main_call0_c_4 : Ref sig .tc := ⟨.hbm, 22, rfl⟩
abbrev main_call0_v11 : Ref sig .tc := ⟨.hbm, 23, rfl⟩
abbrev main_call0_c_5 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_c_6 : Ref sig .tc := ⟨.hbm, 28, rfl⟩
abbrev main_call0_v15 : Ref sig .tc := ⟨.hbm, 29, rfl⟩
abbrev main_call0_c_7 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_v0 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "k_out" => some ((10513561 / 268435456 : ℝ) : EReal)
  | "k_reg" => some ((10513561 / 805306368 : ℝ) : EReal)
  | _ => none
-- ==== ReferenceIdeal.lean ====
abbrev S2x16x4096x128 : Shape := ⟨4, ![2, 16, 4096, 128]⟩
abbrev S96x96 : Shape := ⟨2, ![96, 96]⟩
abbrev S32x32 : Shape := ⟨2, ![32, 32]⟩
abbrev S2 : Shape := ⟨1, ![2]⟩
abbrev S4 : Shape := ⟨1, ![4]⟩
abbrev S_ : Shape := ⟨0, ![]⟩
abbrev S2x16x128 : Shape := ⟨3, ![2, 16, 128]⟩
abbrev S2x16x32 : Shape := ⟨3, ![2, 16, 32]⟩
abbrev S128 : Shape := ⟨1, ![128]⟩
abbrev S1x1x128x1 : Shape := ⟨4, ![1, 1, 128, 1]⟩
abbrev S2x16x1x32 : Shape := ⟨4, ![2, 16, 1, 32]⟩
abbrev S2x16x128x32 : Shape := ⟨4, ![2, 16, 128, 32]⟩
abbrev S2x16x1x128 : Shape := ⟨4, ![2, 16, 1, 128]⟩
abbrev S2x16x4096x128x1 : Shape := ⟨5, ![2, 16, 4096, 128, 1]⟩
abbrev S1 : Shape := ⟨1, ![1]⟩
abbrev S1x1x1x1x1 : Shape := ⟨5, ![1, 1, 1, 1, 1]⟩
abbrev S2x16x4096x96 : Shape := ⟨4, ![2, 16, 4096, 96]⟩
abbrev S2x16x4096x32 : Shape := ⟨4, ![2, 16, 4096, 32]⟩
abbrev S2x16x4096 : Shape := ⟨3, ![2, 16, 4096]⟩
abbrev S2x16x4096x1 : Shape := ⟨4, ![2, 16, 4096, 1]⟩
abbrev S2x16x4096x96x1 : Shape := ⟨5, ![2, 16, 4096, 96, 1]⟩
abbrev S1x1x1x1x2 : Shape := ⟨5, ![1, 1, 1, 1, 2]⟩
abbrev S2x16x4096x96x2 : Shape := ⟨5, ![2, 16, 4096, 96, 2]⟩
abbrev S2x16x4096x32x1 : Shape := ⟨5, ![2, 16, 4096, 32, 1]⟩
abbrev S1x1x1x1x4 : Shape := ⟨5, ![1, 1, 1, 1, 4]⟩
abbrev S2x16x4096x32x4 : Shape := ⟨5, ![2, 16, 4096, 32, 4]⟩

abbrev nBuf : Space → Nat
  | .hbm => 242
  | .vmem => 0
  | .smem => 0
  | _ => 0

abbrev hbmTy0_0 (i : Nat) : BufTy := match i % 128 with
  | 0 => ⟨S2x16x4096x128, .f32⟩
  | 1 => ⟨S96x96, .f32⟩
  | 2 => ⟨S96x96, .f32⟩
  | 3 => ⟨S32x32, .f32⟩
  | 4 => ⟨S32x32, .f32⟩
  | 5 => ⟨S2, .f32⟩
  | 6 => ⟨S4, .f32⟩
  | 7 => ⟨S2x16x4096x128, .f32⟩
  | 8 => ⟨S_, .f32⟩
  | 9 => ⟨S2x16x128, .f32⟩
  | 10 => ⟨S2x16x128, .f32⟩
  | 11 => ⟨S2x16x32, .f32⟩
  | 12 => ⟨S2x16x32, .i32⟩
  | 13 => ⟨S2x16x32, .i32⟩
  | 14 => ⟨S128, .i32⟩
  | 15 => ⟨S1x1x128x1, .i32⟩
  | 16 => ⟨S2x16x1x32, .i32⟩
  | 17 => ⟨S2x16x128x32, .i32⟩
  | 18 => ⟨S2x16x128x32, .i32⟩
  | 19 => ⟨S2x16x128x32, .i1⟩
  | 20 => ⟨S_, .i1⟩
  | 21 => ⟨S2x16x128, .i1⟩
  | 22 => ⟨S2x16x128, .i32⟩
  | 23 => ⟨S2x16x128, .i32⟩
  | 24 => ⟨S2x16x128, .i32⟩
  | 25 => ⟨S2x16x128, .i32⟩
  | 26 => ⟨S2x16x1x128, .i32⟩
  | 27 => ⟨S2x16x4096x128, .i32⟩
  | 28 => ⟨S_, .i32⟩
  | 29 => ⟨S2x16x4096x128, .i32⟩
  | 30 => ⟨S2x16x4096x128, .i1⟩
  | 31 => ⟨S_, .i32⟩
  | 32 => ⟨S2x16x4096x128, .i32⟩
  | 33 => ⟨S2x16x4096x128, .i32⟩
  | 34 => ⟨S2x16x4096x128, .i32⟩
  | 35 => ⟨S2x16x4096x128x1, .i32⟩
  | 36 => ⟨S1, .i32⟩
  | 37 => ⟨S_, .i32⟩
  | 38 => ⟨S2x16x4096x128x1, .i32⟩
  | 39 => ⟨S2x16x4096x128x1, .i1⟩
  | 40 => ⟨S1x1x1x1x1, .i32⟩
  | 41 => ⟨S2x16x4096x128x1, .i32⟩
  | 42 => ⟨S2x16x4096x128x1, .i1⟩
  | 43 => ⟨S2x16x4096x128x1, .i1⟩
  | 44 => ⟨S_, .i1⟩
  | 45 => ⟨S2x16x4096x128, .i1⟩
  | 46 => ⟨S2x16x4096x128, .f32⟩
  | 47 => ⟨S_, .f32⟩
  | 48 => ⟨S2x16x4096x128, .f32⟩
  | 49 => ⟨S2x16x4096x128, .f32⟩
  | 50 => ⟨S2x16x4096x96, .f32⟩
  | 51 => ⟨S2x16x4096x32, .f32⟩
  | 52 => ⟨S2x16x4096x96, .f32⟩
  | 53 => ⟨S_, .f32⟩
  | 54 => ⟨S2x16x4096, .f32⟩
  | 55 => ⟨S2x16x4096x1, .f32⟩
  | 56 => ⟨S2x16x4096x1, .f32⟩
  | 57 => ⟨S_, .f32⟩
  | 58 => ⟨S_, .f32⟩
  | 59 => ⟨S2x16x4096x1, .f32⟩
  | 60 => ⟨S2x16x4096x1, .f32⟩
  | 61 => ⟨S2x16x4096x96, .f32⟩
  | 62 => ⟨S2x16x4096x96, .f32⟩
  | 63 => ⟨S96x96, .f32⟩
  | 64 => ⟨S2x16x4096x96, .f32⟩
  | 65 => ⟨S2x16x4096x96x1, .f32⟩
  | 66 => ⟨S1x1x1x1x2, .f32⟩
  | 67 => ⟨S2x16x4096x96x2, .f32⟩
  | 68 => ⟨S2x16x4096x96x2, .f32⟩
  | 69 => ⟨S2x16x4096x96x2, .f32⟩
  | 70 => ⟨S2x16x4096x96x2, .f32⟩
  | 71 => ⟨S2x16x4096x96x2, .i32⟩
  | 72 => ⟨S_, .f32⟩
  | 73 => ⟨S_, .i32⟩
  | 74 => ⟨S2x16x4096x96, .f32⟩
  | 75 => ⟨S2x16x4096x96, .i32⟩
  | 76 => ⟨S_, .i32⟩
  | 77 => ⟨S2x16x4096x96, .i32⟩
  | 78 => ⟨S2x16x4096x96, .i1⟩
  | 79 => ⟨S_, .i32⟩
  | 80 => ⟨S2x16x4096x96, .i32⟩
  | 81 => ⟨S2x16x4096x96, .i32⟩
  | 82 => ⟨S2x16x4096x96, .i32⟩
  | 83 => ⟨S2x16x4096x96x1, .i32⟩
  | 84 => ⟨S1, .i32⟩
  | 85 => ⟨S_, .i32⟩
  | 86 => ⟨S2x16x4096x96x1, .i32⟩
  | 87 => ⟨S2x16x4096x96x1, .i1⟩
  | 88 => ⟨S1x1x1x1x1, .i32⟩
  | 89 => ⟨S2x16x4096x96x1, .i32⟩
  | 90 => ⟨S2x16x4096x96x1, .i1⟩
  | 91 => ⟨S2x16x4096x96x1, .i1⟩
  | 92 => ⟨S_, .i1⟩
  | 93 => ⟨S2x16x4096x96, .i1⟩
  | 94 => ⟨S2x16x4096x96, .f32⟩
  | 95 => ⟨S_, .f32⟩
  | 96 => ⟨S2x16x4096x96, .f32⟩
  | 97 => ⟨S2x16x4096x96, .f32⟩
  | 98 => ⟨S2x16x4096x96, .f32⟩
  | 99 => ⟨S2x16x4096x96, .f32⟩
  | 100 => ⟨S2x16x4096x96, .f32⟩
  | 101 => ⟨S2x16x4096x96, .f32⟩
  | 102 => ⟨S2x16x4096x96, .f32⟩
  | 103 => ⟨S_, .f32⟩
  | 104 => ⟨S2x16x4096, .f32⟩
  | 105 => ⟨S2x16x4096x1, .f32⟩
  | 106 => ⟨S2x16x4096x1, .f32⟩
  | 107 => ⟨S_, .f32⟩
  | 108 => ⟨S_, .f32⟩
  | 109 => ⟨S2x16x4096x1, .f32⟩
  | 110 => ⟨S2x16x4096x1, .f32⟩
  | 111 => ⟨S2x16x4096x96, .f32⟩
  | 112 => ⟨S2x16x4096x96, .f32⟩
  | 113 => ⟨S96x96, .f32⟩
  | 114 => ⟨S2x16x4096x96, .f32⟩
  | 115 => ⟨S_, .f32⟩
  | 116 => ⟨S2x16x4096x96, .f32⟩
  | 117 => ⟨S2x16x4096x96, .i1⟩
  | 118 => ⟨S_, .f32⟩
  | 119 => ⟨S_, .f32⟩
  | 120 => ⟨S2x16x4096x96, .f32⟩
  | 121 => ⟨S2x16x4096x96, .f32⟩
  | 122 => ⟨S2x16x4096x96, .f32⟩
  | 123 => ⟨S2x16x4096x96, .f32⟩
  | 124 => ⟨S_, .f32⟩
  | 125 => ⟨S_, .f32⟩
  | 126 => ⟨S_, .f32⟩
  | 127 => ⟨S2x16x4096x96, .f32⟩
  | _ => ⟨S2x16x4096x128, .f32⟩

abbrev hbmTy0_1 (i : Nat) : BufTy := match i % 128 with
  | 0 => ⟨S2x16x4096x96, .f32⟩
  | 1 => ⟨S2x16x4096x96, .f32⟩
  | 2 => ⟨S2x16x4096x96, .f32⟩
  | 3 => ⟨S2x16x4096x96, .f32⟩
  | 4 => ⟨S2x16x4096x96, .f32⟩
  | 5 => ⟨S2x16x4096x32, .f32⟩
  | 6 => ⟨S_, .f32⟩
  | 7 => ⟨S2x16x4096, .f32⟩
  | 8 => ⟨S2x16x4096x1, .f32⟩
  | 9 => ⟨S2x16x4096x1, .f32⟩
  | 10 => ⟨S_, .f32⟩
  | 11 => ⟨S_, .f32⟩
  | 12 => ⟨S2x16x4096x1, .f32⟩
  | 13 => ⟨S2x16x4096x1, .f32⟩
  | 14 => ⟨S2x16x4096x32, .f32⟩
  | 15 => ⟨S2x16x4096x32, .f32⟩
  | 16 => ⟨S32x32, .f32⟩
  | 17 => ⟨S2x16x4096x32, .f32⟩
  | 18 => ⟨S2x16x4096x32x1, .f32⟩
  | 19 => ⟨S1x1x1x1x4, .f32⟩
  | 20 => ⟨S2x16x4096x32x4, .f32⟩
  | 21 => ⟨S2x16x4096x32x4, .f32⟩
  | 22 => ⟨S2x16x4096x32x4, .f32⟩
  | 23 => ⟨S2x16x4096x32x4, .f32⟩
  | 24 => ⟨S2x16x4096x32x4, .i32⟩
  | 25 => ⟨S_, .f32⟩
  | 26 => ⟨S_, .i32⟩
  | 27 => ⟨S2x16x4096x32, .f32⟩
  | 28 => ⟨S2x16x4096x32, .i32⟩
  | 29 => ⟨S_, .i32⟩
  | 30 => ⟨S2x16x4096x32, .i32⟩
  | 31 => ⟨S2x16x4096x32, .i1⟩
  | 32 => ⟨S_, .i32⟩
  | 33 => ⟨S2x16x4096x32, .i32⟩
  | 34 => ⟨S2x16x4096x32, .i32⟩
  | 35 => ⟨S2x16x4096x32, .i32⟩
  | 36 => ⟨S2x16x4096x32x1, .i32⟩
  | 37 => ⟨S1, .i32⟩
  | 38 => ⟨S_, .i32⟩
  | 39 => ⟨S2x16x4096x32x1, .i32⟩
  | 40 => ⟨S2x16x4096x32x1, .i1⟩
  | 41 => ⟨S1x1x1x1x1, .i32⟩
  | 42 => ⟨S2x16x4096x32x1, .i32⟩
  | 43 => ⟨S2x16x4096x32x1, .i1⟩
  | 44 => ⟨S2x16x4096x32x1, .i1⟩
  | 45 => ⟨S_, .i1⟩
  | 46 => ⟨S2x16x4096x32, .i1⟩
  | 47 => ⟨S2x16x4096x32, .f32⟩
  | 48 => ⟨S_, .f32⟩
  | 49 => ⟨S2x16x4096x32, .f32⟩
  | 50 => ⟨S2x16x4096x32, .f32⟩
  | 51 => ⟨S2x16x4096x32, .f32⟩
  | 52 => ⟨S2x16x4096x32, .f32⟩
  | 53 => ⟨S2x16x4096x32, .f32⟩
  | 54 => ⟨S2x16x4096x32, .f32⟩
  | 55 => ⟨S2x16x4096x32, .f32⟩
  | 56 => ⟨S_, .f32⟩
  | 57 => ⟨S2x16x4096, .f32⟩
  | 58 => ⟨S2x16x4096x1, .f32⟩
  | 59 => ⟨S2x16x4096x1, .f32⟩
  | 60 => ⟨S_, .f32⟩
  | 61 => ⟨S_, .f32⟩
  | 62 => ⟨S2x16x4096x1, .f32⟩
  | 63 => ⟨S2x16x4096x1, .f32⟩
  | 64 => ⟨S2x16x4096x32, .f32⟩
  | 65 => ⟨S2x16x4096x32, .f32⟩
  | 66 => ⟨S32x32, .f32⟩
  | 67 => ⟨S2x16x4096x32, .f32⟩
  | 68 => ⟨S_, .f32⟩
  | 69 => ⟨S2x16x4096x32, .f32⟩
  | 70 => ⟨S2x16x4096x32, .i1⟩
  | 71 => ⟨S_, .f32⟩
  | 72 => ⟨S_, .f32⟩
  | 73 => ⟨S2x16x4096x32, .f32⟩
  | 74 => ⟨S2x16x4096x32, .f32⟩
  | 75 => ⟨S2x16x4096x32, .f32⟩
  | 76 => ⟨S2x16x4096x32, .f32⟩
  | 77 => ⟨S_, .f32⟩
  | 78 => ⟨S_, .f32⟩
  | 79 => ⟨S_, .f32⟩
  | 80 => ⟨S2x16x4096x32, .f32⟩
  | 81 => ⟨S2x16x4096x32, .f32⟩
  | 82 => ⟨S2x16x4096x32, .f32⟩
  | 83 => ⟨S2x16x4096x32, .f32⟩
  | 84 => ⟨S2x16x4096x32, .f32⟩
  | 85 => ⟨S2x16x4096x32, .f32⟩
  | 86 => ⟨S2x16x4096x128, .f32⟩
  | 87 => ⟨S2x16x128, .i32⟩
  | 88 => ⟨S2x16x128, .i32⟩
  | 89 => ⟨S2x16x128, .i32⟩
  | 90 => ⟨S2x16x1x128, .i32⟩
  | 91 => ⟨S2x16x4096x128, .i32⟩
  | 92 => ⟨S_, .i32⟩
  | 93 => ⟨S2x16x4096x128, .i32⟩
  | 94 => ⟨S2x16x4096x128, .i1⟩
  | 95 => ⟨S_, .i32⟩
  | 96 => ⟨S2x16x4096x128, .i32⟩
  | 97 => ⟨S2x16x4096x128, .i32⟩
  | 98 => ⟨S2x16x4096x128, .i32⟩
  | 99 => ⟨S2x16x4096x128x1, .i32⟩
  | 100 => ⟨S1, .i32⟩
  | 101 => ⟨S_, .i32⟩
  | 102 => ⟨S2x16x4096x128x1, .i32⟩
  | 103 => ⟨S2x16x4096x128x1, .i1⟩
  | 104 => ⟨S1x1x1x1x1, .i32⟩
  | 105 => ⟨S2x16x4096x128x1, .i32⟩
  | 106 => ⟨S2x16x4096x128x1, .i1⟩
  | 107 => ⟨S2x16x4096x128x1, .i1⟩
  | 108 => ⟨S_, .i1⟩
  | 109 => ⟨S2x16x4096x128, .i1⟩
  | 110 => ⟨S2x16x4096x128, .f32⟩
  | 111 => ⟨S_, .f32⟩
  | 112 => ⟨S2x16x4096x128, .f32⟩
  | 113 => ⟨S2x16x4096x128, .f32⟩
  | _ => ⟨S2x16x4096x128, .f32⟩

abbrev hbmTy (i : Nat) : BufTy := match i / 128 with
  | 0 => hbmTy0_0 i
  | 1 => hbmTy0_1 i
  | _ => ⟨S2x16x4096x128, .f32⟩

abbrev bufTy : (tb : Table) → Fin (tcTables nBuf tb) → BufTy
  | .hbm, ⟨i, _⟩ => hbmTy i
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v0 : Ref sig .tc := ⟨.hbm, 10, rfl⟩
abbrev main_values : Ref sig .tc := ⟨.hbm, 11, rfl⟩
abbrev main_indices : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_v1_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call3_c : Ref sig .tc := ⟨.hbm, 28, rfl⟩
abbrev main_call3_v0 : Ref sig .tc := ⟨.hbm, 29, rfl⟩
abbrev main_call3_v1 : Ref sig .tc := ⟨.hbm, 30, rfl⟩
abbrev main_call3_c_0 : Ref sig .tc := ⟨.hbm, 31, rfl⟩
abbrev main_call3_v2 : Ref sig .tc := ⟨.hbm, 32, rfl⟩
abbrev main_call3_v3 : Ref sig .tc := ⟨.hbm, 33, rfl⟩
abbrev main_call3_v4 : Ref sig .tc := ⟨.hbm, 34, rfl⟩
abbrev main_call3_v5 : Ref sig .tc := ⟨.hbm, 35, rfl⟩
abbrev main_call3_c_1 : Ref sig .tc := ⟨.hbm, 36, rfl⟩
abbrev main_call3_c_2 : Ref sig .tc := ⟨.hbm, 37, rfl⟩
abbrev main_call3_v6 : Ref sig .tc := ⟨.hbm, 38, rfl⟩
abbrev main_call3_v7 : Ref sig .tc := ⟨.hbm, 39, rfl⟩
abbrev main_call3_v8 : Ref sig .tc := ⟨.hbm, 40, rfl⟩
abbrev main_call3_v9 : Ref sig .tc := ⟨.hbm, 41, rfl⟩
abbrev main_call3_v10 : Ref sig .tc := ⟨.hbm, 42, rfl⟩
abbrev main_call3_v11 : Ref sig .tc := ⟨.hbm, 43, rfl⟩
abbrev main_call3_c_3 : Ref sig .tc := ⟨.hbm, 44, rfl⟩
abbrev main_call3_v12 : Ref sig .tc := ⟨.hbm, 45, rfl⟩
abbrev main_call3_v13 : Ref sig .tc := ⟨.hbm, 46, rfl⟩
abbrev main_call3_cst : Ref sig .tc := ⟨.hbm, 47, rfl⟩
abbrev main_call3_v14 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_call4_v0 : Ref sig .tc := ⟨.hbm, 52, rfl⟩
abbrev main_call4_cst : Ref sig .tc := ⟨.hbm, 53, rfl⟩
abbrev main_call4_v1 : Ref sig .tc := ⟨.hbm, 54, rfl⟩
abbrev main_call4_v2 : Ref sig .tc := ⟨.hbm, 55, rfl⟩
abbrev main_v16 : Ref sig .tc := ⟨.hbm, 56, rfl⟩
abbrev main_cst_1 : Ref sig .tc := ⟨.hbm, 57, rfl⟩
abbrev main_call5_v0 : Ref sig .tc := ⟨.hbm, 58, rfl⟩
abbrev main_call5_v1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_call6_v0 : Ref sig .tc := ⟨.hbm, 71, rfl⟩
abbrev main_call6_cst : Ref sig .tc := ⟨.hbm, 72, rfl⟩
abbrev main_call6_c : Ref sig .tc := ⟨.hbm, 73, rfl⟩
abbrev main_call6_v1_0 : Ref sig .tc := ⟨.hbm, 74, rfl⟩
abbrev main_v28 : Ref sig .tc := ⟨.hbm, 75, rfl⟩
abbrev main_call7_c : Ref sig .tc := ⟨.hbm, 76, rfl⟩
abbrev main_call7_v0 : Ref sig .tc := ⟨.hbm, 77, rfl⟩
abbrev main_call7_v1 : Ref sig .tc := ⟨.hbm, 78, rfl⟩
abbrev main_call7_c_0 : Ref sig .tc := ⟨.hbm, 79, rfl⟩
abbrev main_call7_v2 : Ref sig .tc := ⟨.hbm, 80, rfl⟩
abbrev main_call7_v3 : Ref sig .tc := ⟨.hbm, 81, rfl⟩
abbrev main_call7_v4 : Ref sig .tc := ⟨.hbm, 82, rfl⟩
abbrev main_call7_v5 : Ref sig .tc := ⟨.hbm, 83, rfl⟩
abbrev main_call7_c_1 : Ref sig .tc := ⟨.hbm, 84, rfl⟩
abbrev main_call7_c_2 : Ref sig .tc := ⟨.hbm, 85, rfl⟩
abbrev main_call7_v6 : Ref sig .tc := ⟨.hbm, 86, rfl⟩
abbrev main_call7_v7 : Ref sig .tc := ⟨.hbm, 87, rfl⟩
abbrev main_call7_v8 : Ref sig .tc := ⟨.hbm, 88, rfl⟩
abbrev main_call7_v9 : Ref sig .tc := ⟨.hbm, 89, rfl⟩
abbrev main_call7_v10 : Ref sig .tc := ⟨.hbm, 90, rfl⟩
abbrev main_call7_v11 : Ref sig .tc := ⟨.hbm, 91, rfl⟩
abbrev main_call7_c_3 : Ref sig .tc := ⟨.hbm, 92, rfl⟩
abbrev main_call7_v12 : Ref sig .tc := ⟨.hbm, 93, rfl⟩
abbrev main_call7_v13 : Ref sig .tc := ⟨.hbm, 94, rfl⟩
abbrev main_call7_cst : Ref sig .tc := ⟨.hbm, 95, rfl⟩
abbrev main_call7_v14 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_call8_v0 : Ref sig .tc := ⟨.hbm, 102, rfl⟩
abbrev main_call8_cst : Ref sig .tc := ⟨.hbm, 103, rfl⟩
abbrev main_call8_v1 : Ref sig .tc := ⟨.hbm, 104, rfl⟩
abbrev main_call8_v2 : Ref sig .tc := ⟨.hbm, 105, rfl⟩
abbrev main_v34 : Ref sig .tc := ⟨.hbm, 106, rfl⟩
abbrev main_cst_2 : Ref sig .tc := ⟨.hbm, 107, rfl⟩
abbrev main_call9_v0 : Ref sig .tc := ⟨.hbm, 108, rfl⟩
abbrev main_call9_v1 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_cst_3 : Ref sig .tc := ⟨.hbm, 115, rfl⟩
abbrev main_v40 : Ref sig .tc := ⟨.hbm, 116, rfl⟩
abbrev main_v41 : Ref sig .tc := ⟨.hbm, 117, rfl⟩
abbrev main_cst_4 : Ref sig .tc := ⟨.hbm, 118, rfl⟩
abbrev main_cst_5 : Ref sig .tc := ⟨.hbm, 119, rfl⟩
abbrev main_call10_v0 : Ref sig .tc := ⟨.hbm, 120, rfl⟩
abbrev main_call10_v1 : Ref sig .tc := ⟨.hbm, 121, rfl⟩
abbrev main_v42 : Ref sig .tc := ⟨.hbm, 122, rfl⟩
abbrev main_v43 : Ref sig .tc := ⟨.hbm, 123, rfl⟩
abbrev main_cst_6 : Ref sig .tc := ⟨.hbm, 124, rfl⟩
abbrev main_cst_7 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_call11_v0 : Ref sig .tc := ⟨.hbm, 133, rfl⟩
abbrev main_call11_cst : Ref sig .tc := ⟨.hbm, 134, rfl⟩
abbrev main_call11_v1 : Ref sig .tc := ⟨.hbm, 135, rfl⟩
abbrev main_call11_v2 : Ref sig .tc := ⟨.hbm, 136, rfl⟩
abbrev main_v51 : Ref sig .tc := ⟨.hbm, 137, rfl⟩
abbrev main_cst_8 : Ref sig .tc := ⟨.hbm, 138, rfl⟩
abbrev main_call12_v0 : Ref sig .tc := ⟨.hbm, 139, rfl⟩
abbrev main_call12_v1 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_call13_v0 : Ref sig .tc := ⟨.hbm, 152, rfl⟩
abbrev main_call13_cst : Ref sig .tc := ⟨.hbm, 153, rfl⟩
abbrev main_call13_c : Ref sig .tc := ⟨.hbm, 154, rfl⟩
abbrev main_call13_v1_0 : Ref sig .tc := ⟨.hbm, 155, rfl⟩
abbrev main_v63 : Ref sig .tc := ⟨.hbm, 156, rfl⟩
abbrev main_call14_c : Ref sig .tc := ⟨.hbm, 157, rfl⟩
abbrev main_call14_v0 : Ref sig .tc := ⟨.hbm, 158, rfl⟩
abbrev main_call14_v1 : Ref sig .tc := ⟨.hbm, 159, rfl⟩
abbrev main_call14_c_0 : Ref sig .tc := ⟨.hbm, 160, rfl⟩
abbrev main_call14_v2 : Ref sig .tc := ⟨.hbm, 161, rfl⟩
abbrev main_call14_v3 : Ref sig .tc := ⟨.hbm, 162, rfl⟩
abbrev main_call14_v4 : Ref sig .tc := ⟨.hbm, 163, rfl⟩
abbrev main_call14_v5 : Ref sig .tc := ⟨.hbm, 164, rfl⟩
abbrev main_call14_c_1 : Ref sig .tc := ⟨.hbm, 165, rfl⟩
abbrev main_call14_c_2 : Ref sig .tc := ⟨.hbm, 166, rfl⟩
abbrev main_call14_v6 : Ref sig .tc := ⟨.hbm, 167, rfl⟩
abbrev main_call14_v7 : Ref sig .tc := ⟨.hbm, 168, rfl⟩
abbrev main_call14_v8 : Ref sig .tc := ⟨.hbm, 169, rfl⟩
abbrev main_call14_v9 : Ref sig .tc := ⟨.hbm, 170, rfl⟩
abbrev main_call14_v10 : Ref sig .tc := ⟨.hbm, 171, rfl⟩
abbrev main_call14_v11 : Ref sig .tc := ⟨.hbm, 172, rfl⟩
abbrev main_call14_c_3 : Ref sig .tc := ⟨.hbm, 173, rfl⟩
abbrev main_call14_v12 : Ref sig .tc := ⟨.hbm, 174, rfl⟩
abbrev main_call14_v13 : Ref sig .tc := ⟨.hbm, 175, rfl⟩
abbrev main_call14_cst : Ref sig .tc := ⟨.hbm, 176, rfl⟩
abbrev main_call14_v14 : Ref sig .tc := ⟨.hbm, 177, rfl⟩
abbrev main_v64 : Ref sig .tc := ⟨.hbm, 178, rfl⟩
abbrev main_v65 : Ref sig .tc := ⟨.hbm, 179, rfl⟩
abbrev main_v66 : Ref sig .tc := ⟨.hbm, 180, rfl⟩
abbrev main_v67 : Ref sig .tc := ⟨.hbm, 181, rfl⟩
abbrev main_v68 : Ref sig .tc := ⟨.hbm, 182, rfl⟩
abbrev main_call15_v0 : Ref sig .tc := ⟨.hbm, 183, rfl⟩
abbrev main_call15_cst : Ref sig .tc := ⟨.hbm, 184, rfl⟩
abbrev main_call15_v1 : Ref sig .tc := ⟨.hbm, 185, rfl⟩
abbrev main_call15_v2 : Ref sig .tc := ⟨.hbm, 186, rfl⟩
abbrev main_v69 : Ref sig .tc := ⟨.hbm, 187, rfl⟩
abbrev main_cst_9 : Ref sig .tc := ⟨.hbm, 188, rfl⟩
abbrev main_call16_v0 : Ref sig .tc := ⟨.hbm, 189, rfl⟩
abbrev main_call16_v1 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_cst_10 : Ref sig .tc := ⟨.hbm, 196, rfl⟩
abbrev main_v75 : Ref sig .tc := ⟨.hbm, 197, rfl⟩
abbrev main_v76 : Ref sig .tc := ⟨.hbm, 198, rfl⟩
abbrev main_cst_11 : Ref sig .tc := ⟨.hbm, 199, rfl⟩
abbrev main_cst_12 : Ref sig .tc := ⟨.hbm, 200, rfl⟩
abbrev main_call17_v0 : Ref sig .tc := ⟨.hbm, 201, rfl⟩
abbrev main_call17_v1 : Ref sig .tc := ⟨.hbm, 202, rfl⟩
abbrev main_v77 : Ref sig .tc := ⟨.hbm, 203, rfl⟩
abbrev main_v78 : Ref sig .tc := ⟨.hbm, 204, rfl⟩
abbrev main_cst_13 : Ref sig .tc := ⟨.hbm, 205, rfl⟩
abbrev main_cst_14 : Ref sig .tc := ⟨.hbm, 206, rfl⟩
abbrev main_v79 : Ref sig .tc := ⟨.hbm, 207, rfl⟩
abbrev main_v80 : Ref sig .tc := ⟨.hbm, 208, rfl⟩
abbrev main_v81 : Ref sig .tc := ⟨.hbm, 209, rfl⟩
abbrev main_v82 : Ref sig .tc := ⟨.hbm, 210, rfl⟩
abbrev main_v83 : Ref sig .tc := ⟨.hbm, 211, rfl⟩
abbrev main_v84 : Ref sig .tc := ⟨.hbm, 212, rfl⟩
abbrev main_v85 : Ref sig .tc := ⟨.hbm, 213, rfl⟩
abbrev main_v86 : Ref sig .tc := ⟨.hbm, 214, rfl⟩
abbrev main_call18_v0 : Ref sig .tc := ⟨.hbm, 215, rfl⟩
abbrev main_call18_v1_0 : Ref sig .tc := ⟨.hbm, 216, rfl⟩
abbrev main_v87 : Ref sig .tc := ⟨.hbm, 217, rfl⟩
abbrev main_v88 : Ref sig .tc := ⟨.hbm, 218, rfl⟩
abbrev main_v89 : Ref sig .tc := ⟨.hbm, 219, rfl⟩
abbrev main_call19_c : Ref sig .tc := ⟨.hbm, 220, rfl⟩
abbrev main_call19_v0 : Ref sig .tc := ⟨.hbm, 221, rfl⟩
abbrev main_call19_v1 : Ref sig .tc := ⟨.hbm, 222, rfl⟩
abbrev main_call19_c_0 : Ref sig .tc := ⟨.hbm, 223, rfl⟩
abbrev main_call19_v2 : Ref sig .tc := ⟨.hbm, 224, rfl⟩
abbrev main_call19_v3 : Ref sig .tc := ⟨.hbm, 225, rfl⟩
abbrev main_call19_v4 : Ref sig .tc := ⟨.hbm, 226, rfl⟩
abbrev main_call19_v5 : Ref sig .tc := ⟨.hbm, 227, rfl⟩
abbrev main_call19_c_1 : Ref sig .tc := ⟨.hbm, 228, rfl⟩
abbrev main_call19_c_2 : Ref sig .tc := ⟨.hbm, 229, rfl⟩
abbrev main_call19_v6 : Ref sig .tc := ⟨.hbm, 230, rfl⟩
abbrev main_call19_v7 : Ref sig .tc := ⟨.hbm, 231, rfl⟩
abbrev main_call19_v8 : Ref sig .tc := ⟨.hbm, 232, rfl⟩
abbrev main_call19_v9 : Ref sig .tc := ⟨.hbm, 233, rfl⟩
abbrev main_call19_v10 : Ref sig .tc := ⟨.hbm, 234, rfl⟩
abbrev main_call19_v11 : Ref sig .tc := ⟨.hbm, 235, rfl⟩
abbrev main_call19_c_3 : Ref sig .tc := ⟨.hbm, 236, rfl⟩
abbrev main_call19_v12 : Ref sig .tc := ⟨.hbm, 237, rfl⟩
abbrev main_call19_v13 : Ref sig .tc := ⟨.hbm, 238, rfl⟩
abbrev main_call19_cst : Ref sig .tc := ⟨.hbm, 239, rfl⟩
abbrev main_call19_v14 : Ref sig .tc := ⟨.hbm, 240, rfl⟩
abbrev main_v90 : Ref sig .tc := ⟨.hbm, 241, rfl⟩

abbrev nD : Nat := 1
abbrev τ : Topo := Topo.v7x

variable {F : FTy → Type} [FloatOps F]
-- ==== Proof.RefOps.lean ====
/-
  The reference program's @main as lists of its host operations, one list per stage, and the three facts that a run of
  such a list asks for: the operations touch only the core's own buffers, none allocates, and each list writes the
  buffers named beside it. The operations' text is the program's own; the cut into stages follows the mathematics.
-/
module

public import proofs.«01_k».proof.Proof.Gen.ReferenceIdeal
public import Idealize.ShloMosaic.Lib.StableHlo.Run
public import Idealize.ShloMosaic.Lib.Pipeline.Frame

@[expose] public section

set_option maxRecDepth 16384
set_option Elab.async false

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- The two groups joined along the channels. -/
def concatGroups (a : (⟨S2x16x4096x96, .f32⟩ : BufTy).Contents (Elt F)) (b : (⟨S2x16x4096x32, .f32⟩ : BufTy).Contents (Elt F)) :
    (⟨S2x16x4096x128, .f32⟩ : BufTy).Contents (Elt F) :=
  concatenate S2x16x4096x128 3 [⟨S2x16x4096x96, a⟩, ⟨S2x16x4096x32, b⟩]
    concatenates_S2x16x4096x96_S2x16x4096x32_S2x16x4096x128_d3

/-- From the argument to the stable order of the channels by class. -/
abbrev maskOps : List (HloOp τ sig (Elt F)) :=
  [ nullary main_cst (fun i => FloatOps.ofBits .f32 (lit0 (S2.rowMajor i))),
    nullary main_cst_0 (fun i => FloatOps.ofBits .f32 (lit1 (S4.rowMajor i))),
    TRef.binary (TRef.of (T := ⟨S2x16x4096x128, .f32⟩) main_arg0) (TRef.of (T := ⟨S2x16x4096x128, .f32⟩) main_arg0) (TRef.of (T := ⟨S2x16x4096x128, .f32⟩) main_call0_v0) mulf,
    TRef.nullary (TRef.of (T := ⟨S_, .f32⟩) main_call0_cst) (constant S_ .f32 0x00000000#32),
    TRef.binary (TRef.of (T := ⟨S2x16x4096x128, .f32⟩) main_call0_v0) (TRef.of (T := ⟨S_, .f32⟩) main_call0_cst) (TRef.of (T := ⟨S2x16x128, .f32⟩) main_call0_v1) (fun x v => Host.reduceAdd x v reducesTo_S2x16x4096x128_S2x16x128_d2 h_S_),
    TRef.unary (TRef.of (T := ⟨S2x16x128, .f32⟩) main_call0_v1) (TRef.of (T := ⟨S2x16x128, .f32⟩) main_v0) Host.sqrt,
    unary main_v0 main_values ((fun x => (Host.topK S2x16x32 2 (FloatOps.cmpfTotal .gt) x sliceFits_S2x16x128_S2x16x32).1) : (⟨S2x16x128, .f32⟩ : BufTy).Contents (Elt F) → (⟨S2x16x32, .f32⟩ : BufTy).Contents (Elt F)),
    unary main_v0 main_indices ((fun x => (Host.topK S2x16x32 2 (FloatOps.cmpfTotal .gt) x sliceFits_S2x16x128_S2x16x32).2) : (⟨S2x16x128, .f32⟩ : BufTy).Contents (Elt F) → (⟨S2x16x32, .i32⟩ : BufTy).Contents (Elt F)),
    TRef.unary (TRef.of (T := ⟨S2x16x32, .i32⟩) main_indices) (TRef.of (T := ⟨S2x16x32, .i32⟩) main_v1) (fun x => Host.sort S2x16x32 2 comparator_i32_d2 x),
    nullary main_v2 (iotaInDim S128 32 0),
    unary main_v2 main_v3 (broadcastInDim S1x1x128x1 ![2] bcast_S128_S1x1x128x1_2 : (⟨S128, .i32⟩ : BufTy).Contents (Elt F) → (⟨S1x1x128x1, .i32⟩ : BufTy).Contents (Elt F)),
    unary main_v1 main_v4 (broadcastInDim S2x16x1x32 ![0, 1, 3] bcast_S2x16x32_S2x16x1x32_0_1_3 : (⟨S2x16x32, .i32⟩ : BufTy).Contents (Elt F) → (⟨S2x16x1x32, .i32⟩ : BufTy).Contents (Elt F)),
    unary main_v3 main_v5 (broadcastInDim S2x16x128x32 ![0, 1, 2, 3] bcast_S1x1x128x1_S2x16x128x32_0_1_2_3 : (⟨S1x1x128x1, .i32⟩ : BufTy).Contents (Elt F) → (⟨S2x16x128x32, .i32⟩ : BufTy).Contents (Elt F)),
    unary main_v4 main_v6 (broadcastInDim S2x16x128x32 ![0, 1, 2, 3] bcast_S2x16x1x32_S2x16x128x32_0_1_2_3 : (⟨S2x16x1x32, .i32⟩ : BufTy).Contents (Elt F) → (⟨S2x16x128x32, .i32⟩ : BufTy).Contents (Elt F)),
    binary main_v5 main_v6 main_v7 (cmpi .eq : (⟨S2x16x128x32, .i32⟩ : BufTy).Contents (Elt F) → (⟨S2x16x128x32, .i32⟩ : BufTy).Contents (Elt F) → (⟨S2x16x128x32, .i1⟩ : BufTy).Contents (Elt F)),
    nullary main_c (constantI S_ 1 0#1),
    binary main_v7 main_c main_v8 ((fun x v => Host.reduce IntOp.ori x v reducesTo_S2x16x128x32_S2x16x128_d3 h_S_) : (⟨S2x16x128x32, .i1⟩ : BufTy).Contents (Elt F) → (⟨S_, .i1⟩ : BufTy).Contents (Elt F) → (⟨S2x16x128, .i1⟩ : BufTy).Contents (Elt F)),
    unary main_v8 main_v9 ((extui 32 · natLt_1_32) : (⟨S2x16x128, .i1⟩ : BufTy).Contents (Elt F) → (⟨S2x16x128, .i32⟩ : BufTy).Contents (Elt F)),
    TRef.nullary (TRef.of (T := ⟨S2x16x128, .i32⟩) main_call2_v0) (iotaInDim S2x16x128 32 2),
    TRef.binary (TRef.of (T := ⟨S2x16x128, .i32⟩) main_v9) (TRef.of (T := ⟨S2x16x128, .i32⟩) main_call2_v0) (TRef.of (T := ⟨S2x16x128, .i32⟩) main_call2_v1_0) (fun x y => (Host.sort2 S2x16x128 2 comparator_i32_i32_d2 x y).1),
    TRef.binary (TRef.of (T := ⟨S2x16x128, .i32⟩) main_v9) (TRef.of (T := ⟨S2x16x128, .i32⟩) main_call2_v0) (TRef.of (T := ⟨S2x16x128, .i32⟩) main_v10) (fun x y => (Host.sort2 S2x16x128 2 comparator_i32_i32_d2 x y).2) ]

/-- The buffers that `maskOps` writes. -/
abbrev maskOpsW : List (Ref sig .tc) := [main_cst, main_cst_0, main_call0_v0, main_call0_cst, main_call0_v1, main_v0, main_values, main_indices, main_v1, main_v2, main_v3, main_v4, main_v5, main_v6, main_v7, main_c, main_v8, main_v9, main_call2_v0, main_call2_v1_0, main_v10]

/-- The channels taken in that order and cut into the two groups. -/
abbrev gatherOps : List (HloOp τ sig (Elt F)) :=
  [ unary main_v10 main_v11 (broadcastInDim S2x16x1x128 ![0, 1, 3] bcast_S2x16x128_S2x16x1x128_0_1_3 : (⟨S2x16x128, .i32⟩ : BufTy).Contents (Elt F) → (⟨S2x16x1x128, .i32⟩ : BufTy).Contents (Elt F)),
    unary main_v11 main_v12 (broadcastInDim S2x16x4096x128 ![0, 1, 2, 3] bcast_S2x16x1x128_S2x16x4096x128_0_1_2_3 : (⟨S2x16x1x128, .i32⟩ : BufTy).Contents (Elt F) → (⟨S2x16x4096x128, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S2x16x4096x128, .i32⟩) main_call3_v0) (broadcastInDim S2x16x4096x128 ![] bcast_S_S2x16x4096x128),
    TRef.binary (TRef.of (T := ⟨S2x16x4096x128, .i32⟩) main_v12) (TRef.of (T := ⟨S2x16x4096x128, .i32⟩) main_call3_v0) (TRef.of (T := ⟨S2x16x4096x128, .i1⟩) main_call3_v1) (cmpi .slt),
    TRef.nullary (TRef.of (T := ⟨S_, .i32⟩) main_call3_c_0) (constantI S_ 32 128#32),
    TRef.unary (TRef.of (T := ⟨S_, .i32⟩) main_call3_c_0) (TRef.of (T := ⟨S2x16x4096x128, .i32⟩) main_call3_v2) (broadcastInDim S2x16x4096x128 ![] bcast_S_S2x16x4096x128),
    TRef.binary (TRef.of (T := ⟨S2x16x4096x128, .i32⟩) main_v12) (TRef.of (T := ⟨S2x16x4096x128, .i32⟩) main_call3_v2) (TRef.of (T := ⟨S2x16x4096x128, .i32⟩) main_call3_v3) addi,
    TRef.ternary (TRef.of (T := ⟨S2x16x4096x128, .i1⟩) main_call3_v1) (TRef.of (T := ⟨S2x16x4096x128, .i32⟩) main_call3_v3) (TRef.of (T := ⟨S2x16x4096x128, .i32⟩) main_v12) (TRef.of (T := ⟨S2x16x4096x128, .i32⟩) main_call3_v4) select,
    TRef.reshape (TRef.of (T := ⟨S2x16x4096x128, .i32⟩) main_call3_v4) (TRef.of (T := ⟨S2x16x4096x128x1, .i32⟩) main_call3_v5) (rfl : (.i32 : EltTy) = .i32) shapeCasts_S2x16x4096x128_S2x16x4096x128x1,
    TRef.nullary (TRef.of (T := ⟨S1, .i32⟩) main_call3_c_1) (constantI S1 32 127#32),
    TRef.nullary (TRef.of (T := ⟨S_, .i32⟩) main_call3_c_2) (constantI S_ 32 0#32),
    TRef.unary (TRef.of (T := ⟨S_, .i32⟩) main_call3_c_2) (TRef.of (T := ⟨S2x16x4096x128x1, .i32⟩) main_call3_v6) (broadcastInDim S2x16x4096x128x1 ![] bcast_S_S2x16x4096x128x1),
    TRef.binary (TRef.of (T := ⟨S2x16x4096x128x1, .i32⟩) main_call3_v5) (TRef.of (T := ⟨S2x16x4096x128x1, .i32⟩) main_call3_v6) (TRef.of (T := ⟨S2x16x4096x128x1, .i1⟩) main_call3_v7) (cmpi .sge),
    TRef.unary (TRef.of (T := ⟨S1, .i32⟩) main_call3_c_1) (TRef.of (T := ⟨S1x1x1x1x1, .i32⟩) main_call3_v8) (broadcastInDim S1x1x1x1x1 ![4] bcast_S1_S1x1x1x1x1_4),
    TRef.unary (TRef.of (T := ⟨S1x1x1x1x1, .i32⟩) main_call3_v8) (TRef.of (T := ⟨S2x16x4096x128x1, .i32⟩) main_call3_v9) (broadcastInDim S2x16x4096x128x1 ![0, 1, 2, 3, 4] bcast_S1x1x1x1x1_S2x16x4096x128x1_0_1_2_3_4),
    TRef.binary (TRef.of (T := ⟨S2x16x4096x128x1, .i32⟩) main_call3_v5) (TRef.of (T := ⟨S2x16x4096x128x1, .i32⟩) main_call3_v9) (TRef.of (T := ⟨S2x16x4096x128x1, .i1⟩) main_call3_v10) (cmpi .sle),
    TRef.binary (TRef.of (T := ⟨S2x16x4096x128x1, .i1⟩) main_call3_v7) (TRef.of (T := ⟨S2x16x4096x128x1, .i1⟩) main_call3_v10) (TRef.of (T := ⟨S2x16x4096x128x1, .i1⟩) main_call3_v11) andi,
    TRef.nullary (TRef.of (T := ⟨S_, .i1⟩) main_call3_c_3) (constantI S_ 1 1#1),
    TRef.binary (TRef.of (T := ⟨S2x16x4096x128x1, .i1⟩) main_call3_v11) (TRef.of (T := ⟨S_, .i1⟩) main_call3_c_3) (TRef.of (T := ⟨S2x16x4096x128, .i1⟩) main_call3_v12) (fun x v => Host.reduce IntOp.andi x v reducesTo_S2x16x4096x128x1_S2x16x4096x128_d4 h_S_),
    TRef.binary (TRef.of (T := ⟨S2x16x4096x128, .f32⟩) main_arg0) (TRef.of (T := ⟨S2x16x4096x128x1, .i32⟩) main_call3_v5) (TRef.of (T := ⟨S2x16x4096x128, .f32⟩) main_call3_v13) (fun x i => Host.gather gather_S2x16x4096x128_S2x16x4096x128x1_S2x16x4096x128_n_3_012_012_3_4_1111 x i),
    TRef.nullary (TRef.of (T := ⟨S_, .f32⟩) main_call3_cst) (constant S_ .f32 0x7FC00000#32),
    TRef.unary (TRef.of (T := ⟨S_, .f32⟩) main_call3_cst) (TRef.of (T := ⟨S2x16x4096x128, .f32⟩) main_call3_v14) (broadcastInDim S2x16x4096x128 ![] bcast_S_S2x16x4096x128),
    TRef.ternary (TRef.of (T := ⟨S2x16x4096x128, .i1⟩) main_call3_v12) (TRef.of (T := ⟨S2x16x4096x128, .f32⟩) main_call3_v13) (TRef.of (T := ⟨S2x16x4096x128, .f32⟩) main_call3_v14) (TRef.of (T := ⟨S2x16x4096x128, .f32⟩) main_v13) select,
    unary main_v13 main_v14 ((extractStridedSlice S2x16x4096x96 ![0, 0, 0, 0] · slices_S2x16x4096x128_S2x16x4096x96_0_0_0_0) : (⟨S2x16x4096x128, .f32⟩ : BufTy).Contents (Elt F) → (⟨S2x16x4096x96, .f32⟩ : BufTy).Contents (Elt F)),
    unary main_v13 main_v15 ((extractStridedSlice S2x16x4096x32 ![0, 0, 0, 96] · slices_S2x16x4096x128_S2x16x4096x32_0_0_0_96) : (⟨S2x16x4096x128, .f32⟩ : BufTy).Contents (Elt F) → (⟨S2x16x4096x32, .f32⟩ : BufTy).Contents (Elt F)) ]

/-- The buffers that `gatherOps` writes. -/
abbrev gatherOpsW : List (Ref sig .tc) := [main_v11, main_v12, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v13, main_v14, main_v15]

/-- First group: the norms and the rotated unit rows. -/
abbrev yRegOps : List (HloOp τ sig (Elt F)) :=
  [ TRef.binary (TRef.of (T := ⟨S2x16x4096x96, .f32⟩) main_v14) (TRef.of (T := ⟨S2x16x4096x96, .f32⟩) main_v14) (TRef.of (T := ⟨S2x16x4096x96, .f32⟩) main_call4_v0) mulf,
    TRef.nullary (TRef.of (T := ⟨S_, .f32⟩) main_call4_cst) (constant S_ .f32 0x00000000#32),
    TRef.binary (TRef.of (T := ⟨S2x16x4096x96, .f32⟩) main_call4_v0) (TRef.of (T := ⟨S_, .f32⟩) main_call4_cst) (TRef.of (T := ⟨S2x16x4096, .f32⟩) main_call4_v1) (fun x v => Host.reduceAdd x v reducesTo_S2x16x4096x96_S2x16x4096_d3 h_S_),
    TRef.unary (TRef.of (T := ⟨S2x16x4096, .f32⟩) main_call4_v1) (TRef.of (T := ⟨S2x16x4096x1, .f32⟩) main_call4_v2) (broadcastInDim S2x16x4096x1 ![0, 1, 2] bcast_S2x16x4096_S2x16x4096x1_0_1_2),
    TRef.unary (TRef.of (T := ⟨S2x16x4096x1, .f32⟩) main_call4_v2) (TRef.of (T := ⟨S2x16x4096x1, .f32⟩) main_v16) Host.sqrt,
    nullary main_cst_1 (constant S_ .f32 0x322BCC77#32),
    TRef.unary (TRef.of (T := ⟨S_, .f32⟩) main_cst_1) (TRef.of (T := ⟨S_, .f32⟩) main_call5_v0) id,
    TRef.unary (TRef.of (T := ⟨S_, .f32⟩) main_call5_v0) (TRef.of (T := ⟨S2x16x4096x1, .f32⟩) main_call5_v1) (broadcastInDim S2x16x4096x1 ![] bcast_S_S2x16x4096x1),
    TRef.binary (TRef.of (T := ⟨S2x16x4096x1, .f32⟩) main_call5_v1) (TRef.of (T := ⟨S2x16x4096x1, .f32⟩) main_v16) (TRef.of (T := ⟨S2x16x4096x1, .f32⟩) main_v17) maximumf,
    unary main_v17 main_v18 (broadcastInDim S2x16x4096x96 ![0, 1, 2, 3] bcast_S2x16x4096x1_S2x16x4096x96_0_1_2_3 : (⟨S2x16x4096x1, .f32⟩ : BufTy).Contents (Elt F) → (⟨S2x16x4096x96, .f32⟩ : BufTy).Contents (Elt F)),
    binary main_v14 main_v18 main_v19 (Host.divf : (⟨S2x16x4096x96, .f32⟩ : BufTy).Contents (Elt F) → (⟨S2x16x4096x96, .f32⟩ : BufTy).Contents (Elt F) → (⟨S2x16x4096x96, .f32⟩ : BufTy).Contents (Elt F)),
    unary main_arg1 main_v20 ((transpose S96x96 [1, 0] · transposes_S96x96_S96x96_1_0) : (⟨S96x96, .f32⟩ : BufTy).Contents (Elt F) → (⟨S96x96, .f32⟩ : BufTy).Contents (Elt F)),
    binary main_v19 main_v20 main_v21 ((fun l r => Host.dotGeneral dot_S2x16x4096x96_S96x96_S2x16x4096x96_3_0_012_1_n_n none l r) : (⟨S2x16x4096x96, .f32⟩ : BufTy).Contents (Elt F) → (⟨S96x96, .f32⟩ : BufTy).Contents (Elt F) → (⟨S2x16x4096x96, .f32⟩ : BufTy).Contents (Elt F)) ]

/-- The buffers that `yRegOps` writes. -/
abbrev yRegOpsW : List (Ref sig .tc) := [main_call4_v0, main_call4_cst, main_call4_v1, main_call4_v2, main_v16, main_cst_1, main_call5_v0, main_call5_v1, main_v17, main_v18, main_v19, main_v20, main_v21]

/-- First group: the nearest of its two levels. -/
abbrev qRegOps : List (HloOp τ sig (Elt F)) :=
  [ unary main_v21 main_v22 (broadcastInDim S2x16x4096x96x1 ![0, 1, 2, 3] bcast_S2x16x4096x96_S2x16x4096x96x1_0_1_2_3 : (⟨S2x16x4096x96, .f32⟩ : BufTy).Contents (Elt F) → (⟨S2x16x4096x96x1, .f32⟩ : BufTy).Contents (Elt F)),
    unary main_cst main_v23 (broadcastInDim S1x1x1x1x2 ![4] bcast_S2_S1x1x1x1x2_4 : (⟨S2, .f32⟩ : BufTy).Contents (Elt F) → (⟨S1x1x1x1x2, .f32⟩ : BufTy).Contents (Elt F)),
    unary main_v22 main_v24 (broadcastInDim S2x16x4096x96x2 ![0, 1, 2, 3, 4] bcast_S2x16x4096x96x1_S2x16x4096x96x2_0_1_2_3_4 : (⟨S2x16x4096x96x1, .f32⟩ : BufTy).Contents (Elt F) → (⟨S2x16x4096x96x2, .f32⟩ : BufTy).Contents (Elt F)),
    unary main_v23 main_v25 (broadcastInDim S2x16x4096x96x2 ![0, 1, 2, 3, 4] bcast_S1x1x1x1x2_S2x16x4096x96x2_0_1_2_3_4 : (⟨S1x1x1x1x2, .f32⟩ : BufTy).Contents (Elt F) → (⟨S2x16x4096x96x2, .f32⟩ : BufTy).Contents (Elt F)),
    binary main_v24 main_v25 main_v26 (subf : (⟨S2x16x4096x96x2, .f32⟩ : BufTy).Contents (Elt F) → (⟨S2x16x4096x96x2, .f32⟩ : BufTy).Contents (Elt F) → (⟨S2x16x4096x96x2, .f32⟩ : BufTy).Contents (Elt F)),
    unary main_v26 main_v27 (Host.absf : (⟨S2x16x4096x96x2, .f32⟩ : BufTy).Contents (Elt F) → (⟨S2x16x4096x96x2, .f32⟩ : BufTy).Contents (Elt F)),
    TRef.nullary (TRef.of (T := ⟨S2x16x4096x96x2, .i32⟩) main_call6_v0) (iotaInDim S2x16x4096x96x2 32 4),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S2x16x4096x96x2, .f32⟩) main_v27) (TRef.of (T := ⟨S2x16x4096x96x2, .i32⟩) main_call6_v0) (TRef.of (T := ⟨S_, .f32⟩) main_call6_cst) (TRef.of (T := ⟨S_, .i32⟩) main_call6_c) (TRef.of (T := ⟨S2x16x4096x96, .f32⟩) main_call6_v1_0) (fun x y u v j => (Host.argReduce reducer_argmin_f32_i32 x y u v reducesTo_S2x16x4096x96x2_S2x16x4096x96_d4 h_S_ j).1),
    TRef.quaternary (TRef.of (T := ⟨S2x16x4096x96x2, .f32⟩) main_v27) (TRef.of (T := ⟨S2x16x4096x96x2, .i32⟩) main_call6_v0) (TRef.of (T := ⟨S_, .f32⟩) main_call6_cst) (TRef.of (T := ⟨S_, .i32⟩) main_call6_c) (TRef.of (T := ⟨S2x16x4096x96, .i32⟩) main_v28) (fun x y u v j => (Host.argReduce reducer_argmin_f32_i32 x y u v reducesTo_S2x16x4096x96x2_S2x16x4096x96_d4 h_S_ j).2),
    TRef.nullary (TRef.of (T := ⟨S_, .i32⟩) main_call7_c) (constantI S_ 32 0#32),
    TRef.unary (TRef.of (T := ⟨S_, .i32⟩) main_call7_c) (TRef.of (T := ⟨S2x16x4096x96, .i32⟩) main_call7_v0) (broadcastInDim S2x16x4096x96 ![] bcast_S_S2x16x4096x96),
    TRef.binary (TRef.of (T := ⟨S2x16x4096x96, .i32⟩) main_v28) (TRef.of (T := ⟨S2x16x4096x96, .i32⟩) main_call7_v0) (TRef.of (T := ⟨S2x16x4096x96, .i1⟩) main_call7_v1) (cmpi .slt),
    TRef.nullary (TRef.of (T := ⟨S_, .i32⟩) main_call7_c_0) (constantI S_ 32 2#32),
    TRef.unary (TRef.of (T := ⟨S_, .i32⟩) main_call7_c_0) (TRef.of (T := ⟨S2x16x4096x96, .i32⟩) main_call7_v2) (broadcastInDim S2x16x4096x96 ![] bcast_S_S2x16x4096x96),
    TRef.binary (TRef.of (T := ⟨S2x16x4096x96, .i32⟩) main_v28) (TRef.of (T := ⟨S2x16x4096x96, .i32⟩) main_call7_v2) (TRef.of (T := ⟨S2x16x4096x96, .i32⟩) main_call7_v3) addi,
    TRef.ternary (TRef.of (T := ⟨S2x16x4096x96, .i1⟩) main_call7_v1) (TRef.of (T := ⟨S2x16x4096x96, .i32⟩) main_call7_v3) (TRef.of (T := ⟨S2x16x4096x96, .i32⟩) main_v28) (TRef.of (T := ⟨S2x16x4096x96, .i32⟩) main_call7_v4) select,
    TRef.unary (TRef.of (T := ⟨S2x16x4096x96, .i32⟩) main_call7_v4) (TRef.of (T := ⟨S2x16x4096x96x1, .i32⟩) main_call7_v5) (broadcastInDim S2x16x4096x96x1 ![0, 1, 2, 3] bcast_S2x16x4096x96_S2x16x4096x96x1_0_1_2_3),
    TRef.nullary (TRef.of (T := ⟨S1, .i32⟩) main_call7_c_1) (constantI S1 32 1#32),
    TRef.nullary (TRef.of (T := ⟨S_, .i32⟩) main_call7_c_2) (constantI S_ 32 0#32),
    TRef.unary (TRef.of (T := ⟨S_, .i32⟩) main_call7_c_2) (TRef.of (T := ⟨S2x16x4096x96x1, .i32⟩) main_call7_v6) (broadcastInDim S2x16x4096x96x1 ![] bcast_S_S2x16x4096x96x1),
    TRef.binary (TRef.of (T := ⟨S2x16x4096x96x1, .i32⟩) main_call7_v5) (TRef.of (T := ⟨S2x16x4096x96x1, .i32⟩) main_call7_v6) (TRef.of (T := ⟨S2x16x4096x96x1, .i1⟩) main_call7_v7) (cmpi .sge),
    TRef.unary (TRef.of (T := ⟨S1, .i32⟩) main_call7_c_1) (TRef.of (T := ⟨S1x1x1x1x1, .i32⟩) main_call7_v8) (broadcastInDim S1x1x1x1x1 ![4] bcast_S1_S1x1x1x1x1_4),
    TRef.unary (TRef.of (T := ⟨S1x1x1x1x1, .i32⟩) main_call7_v8) (TRef.of (T := ⟨S2x16x4096x96x1, .i32⟩) main_call7_v9) (broadcastInDim S2x16x4096x96x1 ![0, 1, 2, 3, 4] bcast_S1x1x1x1x1_S2x16x4096x96x1_0_1_2_3_4),
    TRef.binary (TRef.of (T := ⟨S2x16x4096x96x1, .i32⟩) main_call7_v5) (TRef.of (T := ⟨S2x16x4096x96x1, .i32⟩) main_call7_v9) (TRef.of (T := ⟨S2x16x4096x96x1, .i1⟩) main_call7_v10) (cmpi .sle),
    TRef.binary (TRef.of (T := ⟨S2x16x4096x96x1, .i1⟩) main_call7_v7) (TRef.of (T := ⟨S2x16x4096x96x1, .i1⟩) main_call7_v10) (TRef.of (T := ⟨S2x16x4096x96x1, .i1⟩) main_call7_v11) andi,
    TRef.nullary (TRef.of (T := ⟨S_, .i1⟩) main_call7_c_3) (constantI S_ 1 1#1),
    TRef.binary (TRef.of (T := ⟨S2x16x4096x96x1, .i1⟩) main_call7_v11) (TRef.of (T := ⟨S_, .i1⟩) main_call7_c_3) (TRef.of (T := ⟨S2x16x4096x96, .i1⟩) main_call7_v12) (fun x v => Host.reduce IntOp.andi x v reducesTo_S2x16x4096x96x1_S2x16x4096x96_d4 h_S_),
    TRef.binary (TRef.of (T := ⟨S2, .f32⟩) main_cst) (TRef.of (T := ⟨S2x16x4096x96x1, .i32⟩) main_call7_v5) (TRef.of (T := ⟨S2x16x4096x96, .f32⟩) main_call7_v13) (fun x i => Host.gather gather_S2_S2x16x4096x96x1_S2x16x4096x96_n_0_n_n_0_4_1 x i),
    TRef.nullary (TRef.of (T := ⟨S_, .f32⟩) main_call7_cst) (constant S_ .f32 0x7FC00000#32),
    TRef.unary (TRef.of (T := ⟨S_, .f32⟩) main_call7_cst) (TRef.of (T := ⟨S2x16x4096x96, .f32⟩) main_call7_v14) (broadcastInDim S2x16x4096x96 ![] bcast_S_S2x16x4096x96),
    TRef.ternary (TRef.of (T := ⟨S2x16x4096x96, .i1⟩) main_call7_v12) (TRef.of (T := ⟨S2x16x4096x96, .f32⟩) main_call7_v13) (TRef.of (T := ⟨S2x16x4096x96, .f32⟩) main_call7_v14) (TRef.of (T := ⟨S2x16x4096x96, .f32⟩) main_v29) select ]

/-- The buffers that `qRegOps` writes. -/
abbrev qRegOpsW : List (Ref sig .tc) := [main_v22, main_v23, main_v24, main_v25, main_v26, main_v27, main_call6_v0, main_call6_cst, main_call6_c, main_call6_v1_0, main_v28, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v29]

/-- First group: the residual's sign bits and their back projection. -/
abbrev restRegOpsA : List (HloOp τ sig (Elt F)) :=
  [ binary main_v29 main_arg1 main_v30 ((fun l r => Host.dotGeneral dot_S2x16x4096x96_S96x96_S2x16x4096x96_3_0_012_1_n_n none l r) : (⟨S2x16x4096x96, .f32⟩ : BufTy).Contents (Elt F) → (⟨S96x96, .f32⟩ : BufTy).Contents (Elt F) → (⟨S2x16x4096x96, .f32⟩ : BufTy).Contents (Elt F)),
    unary main_v17 main_v31 (broadcastInDim S2x16x4096x96 ![0, 1, 2, 3] bcast_S2x16x4096x1_S2x16x4096x96_0_1_2_3 : (⟨S2x16x4096x1, .f32⟩ : BufTy).Contents (Elt F) → (⟨S2x16x4096x96, .f32⟩ : BufTy).Contents (Elt F)),
    binary main_v30 main_v31 main_v32 (mulf : (⟨S2x16x4096x96, .f32⟩ : BufTy).Contents (Elt F) → (⟨S2x16x4096x96, .f32⟩ : BufTy).Contents (Elt F) → (⟨S2x16x4096x96, .f32⟩ : BufTy).Contents (Elt F)),
    binary main_v14 main_v32 main_v33 (subf : (⟨S2x16x4096x96, .f32⟩ : BufTy).Contents (Elt F) → (⟨S2x16x4096x96, .f32⟩ : BufTy).Contents (Elt F) → (⟨S2x16x4096x96, .f32⟩ : BufTy).Contents (Elt F)),
    TRef.binary (TRef.of (T := ⟨S2x16x4096x96, .f32⟩) main_v33) (TRef.of (T := ⟨S2x16x4096x96, .f32⟩) main_v33) (TRef.of (T := ⟨S2x16x4096x96, .f32⟩) main_call8_v0) mulf,
    TRef.nullary (TRef.of (T := ⟨S_, .f32⟩) main_call8_cst) (constant S_ .f32 0x00000000#32),
    TRef.binary (TRef.of (T := ⟨S2x16x4096x96, .f32⟩) main_call8_v0) (TRef.of (T := ⟨S_, .f32⟩) main_call8_cst) (TRef.of (T := ⟨S2x16x4096, .f32⟩) main_call8_v1) (fun x v => Host.reduceAdd x v reducesTo_S2x16x4096x96_S2x16x4096_d3 h_S_),
    TRef.unary (TRef.of (T := ⟨S2x16x4096, .f32⟩) main_call8_v1) (TRef.of (T := ⟨S2x16x4096x1, .f32⟩) main_call8_v2) (broadcastInDim S2x16x4096x1 ![0, 1, 2] bcast_S2x16x4096_S2x16x4096x1_0_1_2),
    TRef.unary (TRef.of (T := ⟨S2x16x4096x1, .f32⟩) main_call8_v2) (TRef.of (T := ⟨S2x16x4096x1, .f32⟩) main_v34) Host.sqrt,
    nullary main_cst_2 (constant S_ .f32 0x2EDBE6FF#32),
    TRef.unary (TRef.of (T := ⟨S_, .f32⟩) main_cst_2) (TRef.of (T := ⟨S_, .f32⟩) main_call9_v0) id,
    TRef.unary (TRef.of (T := ⟨S_, .f32⟩) main_call9_v0) (TRef.of (T := ⟨S2x16x4096x1, .f32⟩) main_call9_v1) (broadcastInDim S2x16x4096x1 ![] bcast_S_S2x16x4096x1),
    TRef.binary (TRef.of (T := ⟨S2x16x4096x1, .f32⟩) main_call9_v1) (TRef.of (T := ⟨S2x16x4096x1, .f32⟩) main_v34) (TRef.of (T := ⟨S2x16x4096x1, .f32⟩) main_v35) maximumf,
    unary main_v35 main_v36 (broadcastInDim S2x16x4096x96 ![0, 1, 2, 3] bcast_S2x16x4096x1_S2x16x4096x96_0_1_2_3 : (⟨S2x16x4096x1, .f32⟩ : BufTy).Contents (Elt F) → (⟨S2x16x4096x96, .f32⟩ : BufTy).Contents (Elt F)),
    binary main_v33 main_v36 main_v37 (Host.divf : (⟨S2x16x4096x96, .f32⟩ : BufTy).Contents (Elt F) → (⟨S2x16x4096x96, .f32⟩ : BufTy).Contents (Elt F) → (⟨S2x16x4096x96, .f32⟩ : BufTy).Contents (Elt F)),
    unary main_arg2 main_v38 ((transpose S96x96 [1, 0] · transposes_S96x96_S96x96_1_0) : (⟨S96x96, .f32⟩ : BufTy).Contents (Elt F) → (⟨S96x96, .f32⟩ : BufTy).Contents (Elt F)),
    binary main_v37 main_v38 main_v39 ((fun l r => Host.dotGeneral dot_S2x16x4096x96_S96x96_S2x16x4096x96_3_0_012_1_n_n none l r) : (⟨S2x16x4096x96, .f32⟩ : BufTy).Contents (Elt F) → (⟨S96x96, .f32⟩ : BufTy).Contents (Elt F) → (⟨S2x16x4096x96, .f32⟩ : BufTy).Contents (Elt F)),
    nullary main_cst_3 (constant S_ .f32 0x00000000#32),
    unary main_cst_3 main_v40 (broadcastInDim S2x16x4096x96 ![] bcast_S_S2x16x4096x96 : (⟨S_, .f32⟩ : BufTy).Contents (Elt F) → (⟨S2x16x4096x96, .f32⟩ : BufTy).Contents (Elt F)),
    binary main_v39 main_v40 main_v41 (cmpf .oge : (⟨S2x16x4096x96, .f32⟩ : BufTy).Contents (Elt F) → (⟨S2x16x4096x96, .f32⟩ : BufTy).Contents (Elt F) → (⟨S2x16x4096x96, .i1⟩ : BufTy).Contents (Elt F)),
    nullary main_cst_4 (constant S_ .f32 0x3F800000#32),
    nullary main_cst_5 (constant S_ .f32 0xBF800000#32),
    TRef.unary (TRef.of (T := ⟨S_, .f32⟩) main_cst_4) (TRef.of (T := ⟨S2x16x4096x96, .f32⟩) main_call10_v0) (broadcastInDim S2x16x4096x96 ![] bcast_S_S2x16x4096x96),
    TRef.unary (TRef.of (T := ⟨S_, .f32⟩) main_cst_5) (TRef.of (T := ⟨S2x16x4096x96, .f32⟩) main_call10_v1) (broadcastInDim S2x16x4096x96 ![] bcast_S_S2x16x4096x96),
    TRef.ternary (TRef.of (T := ⟨S2x16x4096x96, .i1⟩) main_v41) (TRef.of (T := ⟨S2x16x4096x96, .f32⟩) main_call10_v0) (TRef.of (T := ⟨S2x16x4096x96, .f32⟩) main_call10_v1) (TRef.of (T := ⟨S2x16x4096x96, .f32⟩) main_v42) select,
    unary main_v42 main_v43 (id : (⟨S2x16x4096x96, .f32⟩ : BufTy).Contents (Elt F) → (⟨S2x16x4096x96, .f32⟩ : BufTy).Contents (Elt F)),
    nullary main_cst_6 (constant S_ .f32 0x3FA06C99#32),
    nullary main_cst_7 (constant S_ .f32 0x42C00000#32),
    binary main_cst_6 main_cst_7 main_v44 (Host.divf : (⟨S_, .f32⟩ : BufTy).Contents (Elt F) → (⟨S_, .f32⟩ : BufTy).Contents (Elt F) → (⟨S_, .f32⟩ : BufTy).Contents (Elt F)),
    binary main_v43 main_arg2 main_v45 ((fun l r => Host.dotGeneral dot_S2x16x4096x96_S96x96_S2x16x4096x96_3_0_012_1_n_n none l r) : (⟨S2x16x4096x96, .f32⟩ : BufTy).Contents (Elt F) → (⟨S96x96, .f32⟩ : BufTy).Contents (Elt F) → (⟨S2x16x4096x96, .f32⟩ : BufTy).Contents (Elt F)),
    unary main_v44 main_v46 (broadcastInDim S2x16x4096x96 ![] bcast_S_S2x16x4096x96 : (⟨S_, .f32⟩ : BufTy).Contents (Elt F) → (⟨S2x16x4096x96, .f32⟩ : BufTy).Contents (Elt F)),
    binary main_v46 main_v45 main_v47 (mulf : (⟨S2x16x4096x96, .f32⟩ : BufTy).Contents (Elt F) → (⟨S2x16x4096x96, .f32⟩ : BufTy).Contents (Elt F) → (⟨S2x16x4096x96, .f32⟩ : BufTy).Contents (Elt F)) ]

/-- The buffers that `restRegOpsA` writes. -/
abbrev restRegOpsAW : List (Ref sig .tc) := [main_v30, main_v31, main_v32, main_v33, main_call8_v0, main_call8_cst, main_call8_v1, main_call8_v2, main_v34, main_cst_2, main_call9_v0, main_call9_v1, main_v35, main_v36, main_v37, main_v38, main_v39, main_cst_3, main_v40, main_v41, main_cst_4, main_cst_5, main_call10_v0, main_call10_v1, main_v42, main_v43, main_cst_6, main_cst_7, main_v44, main_v45, main_v46, main_v47]

/-- First group: the sum of the two stages. -/
abbrev restRegOpsB : List (HloOp τ sig (Elt F)) :=
  [ unary main_v35 main_v48 (broadcastInDim S2x16x4096x96 ![0, 1, 2, 3] bcast_S2x16x4096x1_S2x16x4096x96_0_1_2_3 : (⟨S2x16x4096x1, .f32⟩ : BufTy).Contents (Elt F) → (⟨S2x16x4096x96, .f32⟩ : BufTy).Contents (Elt F)),
    binary main_v47 main_v48 main_v49 (mulf : (⟨S2x16x4096x96, .f32⟩ : BufTy).Contents (Elt F) → (⟨S2x16x4096x96, .f32⟩ : BufTy).Contents (Elt F) → (⟨S2x16x4096x96, .f32⟩ : BufTy).Contents (Elt F)),
    binary main_v32 main_v49 main_v50 (addf : (⟨S2x16x4096x96, .f32⟩ : BufTy).Contents (Elt F) → (⟨S2x16x4096x96, .f32⟩ : BufTy).Contents (Elt F) → (⟨S2x16x4096x96, .f32⟩ : BufTy).Contents (Elt F)) ]

/-- The buffers that `restRegOpsB` writes. -/
abbrev restRegOpsBW : List (Ref sig .tc) := [main_v48, main_v49, main_v50]

/-- Second group: the norms and the rotated unit rows. -/
abbrev yOutOps : List (HloOp τ sig (Elt F)) :=
  [ TRef.binary (TRef.of (T := ⟨S2x16x4096x32, .f32⟩) main_v15) (TRef.of (T := ⟨S2x16x4096x32, .f32⟩) main_v15) (TRef.of (T := ⟨S2x16x4096x32, .f32⟩) main_call11_v0) mulf,
    TRef.nullary (TRef.of (T := ⟨S_, .f32⟩) main_call11_cst) (constant S_ .f32 0x00000000#32),
    TRef.binary (TRef.of (T := ⟨S2x16x4096x32, .f32⟩) main_call11_v0) (TRef.of (T := ⟨S_, .f32⟩) main_call11_cst) (TRef.of (T := ⟨S2x16x4096, .f32⟩) main_call11_v1) (fun x v => Host.reduceAdd x v reducesTo_S2x16x4096x32_S2x16x4096_d3 h_S_),
    TRef.unary (TRef.of (T := ⟨S2x16x4096, .f32⟩) main_call11_v1) (TRef.of (T := ⟨S2x16x4096x1, .f32⟩) main_call11_v2) (broadcastInDim S2x16x4096x1 ![0, 1, 2] bcast_S2x16x4096_S2x16x4096x1_0_1_2),
    TRef.unary (TRef.of (T := ⟨S2x16x4096x1, .f32⟩) main_call11_v2) (TRef.of (T := ⟨S2x16x4096x1, .f32⟩) main_v51) Host.sqrt,
    nullary main_cst_8 (constant S_ .f32 0x322BCC77#32),
    TRef.unary (TRef.of (T := ⟨S_, .f32⟩) main_cst_8) (TRef.of (T := ⟨S_, .f32⟩) main_call12_v0) id,
    TRef.unary (TRef.of (T := ⟨S_, .f32⟩) main_call12_v0) (TRef.of (T := ⟨S2x16x4096x1, .f32⟩) main_call12_v1) (broadcastInDim S2x16x4096x1 ![] bcast_S_S2x16x4096x1),
    TRef.binary (TRef.of (T := ⟨S2x16x4096x1, .f32⟩) main_call12_v1) (TRef.of (T := ⟨S2x16x4096x1, .f32⟩) main_v51) (TRef.of (T := ⟨S2x16x4096x1, .f32⟩) main_v52) maximumf,
    unary main_v52 main_v53 (broadcastInDim S2x16x4096x32 ![0, 1, 2, 3] bcast_S2x16x4096x1_S2x16x4096x32_0_1_2_3 : (⟨S2x16x4096x1, .f32⟩ : BufTy).Contents (Elt F) → (⟨S2x16x4096x32, .f32⟩ : BufTy).Contents (Elt F)),
    binary main_v15 main_v53 main_v54 (Host.divf : (⟨S2x16x4096x32, .f32⟩ : BufTy).Contents (Elt F) → (⟨S2x16x4096x32, .f32⟩ : BufTy).Contents (Elt F) → (⟨S2x16x4096x32, .f32⟩ : BufTy).Contents (Elt F)),
    unary main_arg3 main_v55 ((transpose S32x32 [1, 0] · transposes_S32x32_S32x32_1_0) : (⟨S32x32, .f32⟩ : BufTy).Contents (Elt F) → (⟨S32x32, .f32⟩ : BufTy).Contents (Elt F)),
    binary main_v54 main_v55 main_v56 ((fun l r => Host.dotGeneral dot_S2x16x4096x32_S32x32_S2x16x4096x32_3_0_012_1_n_n none l r) : (⟨S2x16x4096x32, .f32⟩ : BufTy).Contents (Elt F) → (⟨S32x32, .f32⟩ : BufTy).Contents (Elt F) → (⟨S2x16x4096x32, .f32⟩ : BufTy).Contents (Elt F)) ]

/-- The buffers that `yOutOps` writes. -/
abbrev yOutOpsW : List (Ref sig .tc) := [main_call11_v0, main_call11_cst, main_call11_v1, main_call11_v2, main_v51, main_cst_8, main_call12_v0, main_call12_v1, main_v52, main_v53, main_v54, main_v55, main_v56]

/-- Second group: the nearest of its four levels. -/
abbrev qOutOps : List (HloOp τ sig (Elt F)) :=
  [ unary main_v56 main_v57 (broadcastInDim S2x16x4096x32x1 ![0, 1, 2, 3] bcast_S2x16x4096x32_S2x16x4096x32x1_0_1_2_3 : (⟨S2x16x4096x32, .f32⟩ : BufTy).Contents (Elt F) → (⟨S2x16x4096x32x1, .f32⟩ : BufTy).Contents (Elt F)),
    unary main_cst_0 main_v58 (broadcastInDim S1x1x1x1x4 ![4] bcast_S4_S1x1x1x1x4_4 : (⟨S4, .f32⟩ : BufTy).Contents (Elt F) → (⟨S1x1x1x1x4, .f32⟩ : BufTy).Contents (Elt F)),
    unary main_v57 main_v59 (broadcastInDim S2x16x4096x32x4 ![0, 1, 2, 3, 4] bcast_S2x16x4096x32x1_S2x16x4096x32x4_0_1_2_3_4 : (⟨S2x16x4096x32x1, .f32⟩ : BufTy).Contents (Elt F) → (⟨S2x16x4096x32x4, .f32⟩ : BufTy).Contents (Elt F)),
    unary main_v58 main_v60 (broadcastInDim S2x16x4096x32x4 ![0, 1, 2, 3, 4] bcast_S1x1x1x1x4_S2x16x4096x32x4_0_1_2_3_4 : (⟨S1x1x1x1x4, .f32⟩ : BufTy).Contents (Elt F) → (⟨S2x16x4096x32x4, .f32⟩ : BufTy).Contents (Elt F)),
    binary main_v59 main_v60 main_v61 (subf : (⟨S2x16x4096x32x4, .f32⟩ : BufTy).Contents (Elt F) → (⟨S2x16x4096x32x4, .f32⟩ : BufTy).Contents (Elt F) → (⟨S2x16x4096x32x4, .f32⟩ : BufTy).Contents (Elt F)),
    unary main_v61 main_v62 (Host.absf : (⟨S2x16x4096x32x4, .f32⟩ : BufTy).Contents (Elt F) → (⟨S2x16x4096x32x4, .f32⟩ : BufTy).Contents (Elt F)),
    TRef.nullary (TRef.of (T := ⟨S2x16x4096x32x4, .i32⟩) main_call13_v0) (iotaInDim S2x16x4096x32x4 32 4),
    TRef.nullary (TRef.of (T := ⟨S_, .f32⟩) main_call13_cst) (constant S_ .f32 0x7F800000#32),
    TRef.nullary (TRef.of (T := ⟨S_, .i32⟩) main_call13_c) (constantI S_ 32 0#32),
    TRef.quaternary (TRef.of (T := ⟨S2x16x4096x32x4, .f32⟩) main_v62) (TRef.of (T := ⟨S2x16x4096x32x4, .i32⟩) main_call13_v0) (TRef.of (T := ⟨S_, .f32⟩) main_call13_cst) (TRef.of (T := ⟨S_, .i32⟩) main_call13_c) (TRef.of (T := ⟨S2x16x4096x32, .f32⟩) main_call13_v1_0) (fun x y u v j => (Host.argReduce reducer_argmin_f32_i32 x y u v reducesTo_S2x16x4096x32x4_S2x16x4096x32_d4 h_S_ j).1),
    TRef.quaternary (TRef.of (T := ⟨S2x16x4096x32x4, .f32⟩) main_v62) (TRef.of (T := ⟨S2x16x4096x32x4, .i32⟩) main_call13_v0) (TRef.of (T := ⟨S_, .f32⟩) main_call13_cst) (TRef.of (T := ⟨S_, .i32⟩) main_call13_c) (TRef.of (T := ⟨S2x16x4096x32, .i32⟩) main_v63) (fun x y u v j => (Host.argReduce reducer_argmin_f32_i32 x y u v reducesTo_S2x16x4096x32x4_S2x16x4096x32_d4 h_S_ j).2),
    TRef.nullary (TRef.of (T := ⟨S_, .i32⟩) main_call14_c) (constantI S_ 32 0#32),
    TRef.unary (TRef.of (T := ⟨S_, .i32⟩) main_call14_c) (TRef.of (T := ⟨S2x16x4096x32, .i32⟩) main_call14_v0) (broadcastInDim S2x16x4096x32 ![] bcast_S_S2x16x4096x32),
    TRef.binary (TRef.of (T := ⟨S2x16x4096x32, .i32⟩) main_v63) (TRef.of (T := ⟨S2x16x4096x32, .i32⟩) main_call14_v0) (TRef.of (T := ⟨S2x16x4096x32, .i1⟩) main_call14_v1) (cmpi .slt),
    TRef.nullary (TRef.of (T := ⟨S_, .i32⟩) main_call14_c_0) (constantI S_ 32 4#32),
    TRef.unary (TRef.of (T := ⟨S_, .i32⟩) main_call14_c_0) (TRef.of (T := ⟨S2x16x4096x32, .i32⟩) main_call14_v2) (broadcastInDim S2x16x4096x32 ![] bcast_S_S2x16x4096x32),
    TRef.binary (TRef.of (T := ⟨S2x16x4096x32, .i32⟩) main_v63) (TRef.of (T := ⟨S2x16x4096x32, .i32⟩) main_call14_v2) (TRef.of (T := ⟨S2x16x4096x32, .i32⟩) main_call14_v3) addi,
    TRef.ternary (TRef.of (T := ⟨S2x16x4096x32, .i1⟩) main_call14_v1) (TRef.of (T := ⟨S2x16x4096x32, .i32⟩) main_call14_v3) (TRef.of (T := ⟨S2x16x4096x32, .i32⟩) main_v63) (TRef.of (T := ⟨S2x16x4096x32, .i32⟩) main_call14_v4) select,
    TRef.unary (TRef.of (T := ⟨S2x16x4096x32, .i32⟩) main_call14_v4) (TRef.of (T := ⟨S2x16x4096x32x1, .i32⟩) main_call14_v5) (broadcastInDim S2x16x4096x32x1 ![0, 1, 2, 3] bcast_S2x16x4096x32_S2x16x4096x32x1_0_1_2_3),
    TRef.nullary (TRef.of (T := ⟨S1, .i32⟩) main_call14_c_1) (constantI S1 32 3#32),
    TRef.nullary (TRef.of (T := ⟨S_, .i32⟩) main_call14_c_2) (constantI S_ 32 0#32),
    TRef.unary (TRef.of (T := ⟨S_, .i32⟩) main_call14_c_2) (TRef.of (T := ⟨S2x16x4096x32x1, .i32⟩) main_call14_v6) (broadcastInDim S2x16x4096x32x1 ![] bcast_S_S2x16x4096x32x1),
    TRef.binary (TRef.of (T := ⟨S2x16x4096x32x1, .i32⟩) main_call14_v5) (TRef.of (T := ⟨S2x16x4096x32x1, .i32⟩) main_call14_v6) (TRef.of (T := ⟨S2x16x4096x32x1, .i1⟩) main_call14_v7) (cmpi .sge),
    TRef.unary (TRef.of (T := ⟨S1, .i32⟩) main_call14_c_1) (TRef.of (T := ⟨S1x1x1x1x1, .i32⟩) main_call14_v8) (broadcastInDim S1x1x1x1x1 ![4] bcast_S1_S1x1x1x1x1_4),
    TRef.unary (TRef.of (T := ⟨S1x1x1x1x1, .i32⟩) main_call14_v8) (TRef.of (T := ⟨S2x16x4096x32x1, .i32⟩) main_call14_v9) (broadcastInDim S2x16x4096x32x1 ![0, 1, 2, 3, 4] bcast_S1x1x1x1x1_S2x16x4096x32x1_0_1_2_3_4),
    TRef.binary (TRef.of (T := ⟨S2x16x4096x32x1, .i32⟩) main_call14_v5) (TRef.of (T := ⟨S2x16x4096x32x1, .i32⟩) main_call14_v9) (TRef.of (T := ⟨S2x16x4096x32x1, .i1⟩) main_call14_v10) (cmpi .sle),
    TRef.binary (TRef.of (T := ⟨S2x16x4096x32x1, .i1⟩) main_call14_v7) (TRef.of (T := ⟨S2x16x4096x32x1, .i1⟩) main_call14_v10) (TRef.of (T := ⟨S2x16x4096x32x1, .i1⟩) main_call14_v11) andi,
    TRef.nullary (TRef.of (T := ⟨S_, .i1⟩) main_call14_c_3) (constantI S_ 1 1#1),
    TRef.binary (TRef.of (T := ⟨S2x16x4096x32x1, .i1⟩) main_call14_v11) (TRef.of (T := ⟨S_, .i1⟩) main_call14_c_3) (TRef.of (T := ⟨S2x16x4096x32, .i1⟩) main_call14_v12) (fun x v => Host.reduce IntOp.andi x v reducesTo_S2x16x4096x32x1_S2x16x4096x32_d4 h_S_),
    TRef.binary (TRef.of (T := ⟨S4, .f32⟩) main_cst_0) (TRef.of (T := ⟨S2x16x4096x32x1, .i32⟩) main_call14_v5) (TRef.of (T := ⟨S2x16x4096x32, .f32⟩) main_call14_v13) (fun x i => Host.gather gather_S4_S2x16x4096x32x1_S2x16x4096x32_n_0_n_n_0_4_1 x i),
    TRef.nullary (TRef.of (T := ⟨S_, .f32⟩) main_call14_cst) (constant S_ .f32 0x7FC00000#32),
    TRef.unary (TRef.of (T := ⟨S_, .f32⟩) main_call14_cst) (TRef.of (T := ⟨S2x16x4096x32, .f32⟩) main_call14_v14) (broadcastInDim S2x16x4096x32 ![] bcast_S_S2x16x4096x32),
    TRef.ternary (TRef.of (T := ⟨S2x16x4096x32, .i1⟩) main_call14_v12) (TRef.of (T := ⟨S2x16x4096x32, .f32⟩) main_call14_v13) (TRef.of (T := ⟨S2x16x4096x32, .f32⟩) main_call14_v14) (TRef.of (T := ⟨S2x16x4096x32, .f32⟩) main_v64) select ]

/-- The buffers that `qOutOps` writes. -/
abbrev qOutOpsW : List (Ref sig .tc) := [main_v57, main_v58, main_v59, main_v60, main_v61, main_v62, main_call13_v0, main_call13_cst, main_call13_c, main_call13_v1_0, main_v63, main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_cst, main_call14_v14, main_v64]

/-- Second group: the residual's sign bits and the sum of the two stages. -/
abbrev restOutOps : List (HloOp τ sig (Elt F)) :=
  [ binary main_v64 main_arg3 main_v65 ((fun l r => Host.dotGeneral dot_S2x16x4096x32_S32x32_S2x16x4096x32_3_0_012_1_n_n none l r) : (⟨S2x16x4096x32, .f32⟩ : BufTy).Contents (Elt F) → (⟨S32x32, .f32⟩ : BufTy).Contents (Elt F) → (⟨S2x16x4096x32, .f32⟩ : BufTy).Contents (Elt F)),
    unary main_v52 main_v66 (broadcastInDim S2x16x4096x32 ![0, 1, 2, 3] bcast_S2x16x4096x1_S2x16x4096x32_0_1_2_3 : (⟨S2x16x4096x1, .f32⟩ : BufTy).Contents (Elt F) → (⟨S2x16x4096x32, .f32⟩ : BufTy).Contents (Elt F)),
    binary main_v65 main_v66 main_v67 (mulf : (⟨S2x16x4096x32, .f32⟩ : BufTy).Contents (Elt F) → (⟨S2x16x4096x32, .f32⟩ : BufTy).Contents (Elt F) → (⟨S2x16x4096x32, .f32⟩ : BufTy).Contents (Elt F)),
    binary main_v15 main_v67 main_v68 (subf : (⟨S2x16x4096x32, .f32⟩ : BufTy).Contents (Elt F) → (⟨S2x16x4096x32, .f32⟩ : BufTy).Contents (Elt F) → (⟨S2x16x4096x32, .f32⟩ : BufTy).Contents (Elt F)),
    TRef.binary (TRef.of (T := ⟨S2x16x4096x32, .f32⟩) main_v68) (TRef.of (T := ⟨S2x16x4096x32, .f32⟩) main_v68) (TRef.of (T := ⟨S2x16x4096x32, .f32⟩) main_call15_v0) mulf,
    TRef.nullary (TRef.of (T := ⟨S_, .f32⟩) main_call15_cst) (constant S_ .f32 0x00000000#32),
    TRef.binary (TRef.of (T := ⟨S2x16x4096x32, .f32⟩) main_call15_v0) (TRef.of (T := ⟨S_, .f32⟩) main_call15_cst) (TRef.of (T := ⟨S2x16x4096, .f32⟩) main_call15_v1) (fun x v => Host.reduceAdd x v reducesTo_S2x16x4096x32_S2x16x4096_d3 h_S_),
    TRef.unary (TRef.of (T := ⟨S2x16x4096, .f32⟩) main_call15_v1) (TRef.of (T := ⟨S2x16x4096x1, .f32⟩) main_call15_v2) (broadcastInDim S2x16x4096x1 ![0, 1, 2] bcast_S2x16x4096_S2x16x4096x1_0_1_2),
    TRef.unary (TRef.of (T := ⟨S2x16x4096x1, .f32⟩) main_call15_v2) (TRef.of (T := ⟨S2x16x4096x1, .f32⟩) main_v69) Host.sqrt,
    nullary main_cst_9 (constant S_ .f32 0x2EDBE6FF#32),
    TRef.unary (TRef.of (T := ⟨S_, .f32⟩) main_cst_9) (TRef.of (T := ⟨S_, .f32⟩) main_call16_v0) id,
    TRef.unary (TRef.of (T := ⟨S_, .f32⟩) main_call16_v0) (TRef.of (T := ⟨S2x16x4096x1, .f32⟩) main_call16_v1) (broadcastInDim S2x16x4096x1 ![] bcast_S_S2x16x4096x1),
    TRef.binary (TRef.of (T := ⟨S2x16x4096x1, .f32⟩) main_call16_v1) (TRef.of (T := ⟨S2x16x4096x1, .f32⟩) main_v69) (TRef.of (T := ⟨S2x16x4096x1, .f32⟩) main_v70) maximumf,
    unary main_v70 main_v71 (broadcastInDim S2x16x4096x32 ![0, 1, 2, 3] bcast_S2x16x4096x1_S2x16x4096x32_0_1_2_3 : (⟨S2x16x4096x1, .f32⟩ : BufTy).Contents (Elt F) → (⟨S2x16x4096x32, .f32⟩ : BufTy).Contents (Elt F)),
    binary main_v68 main_v71 main_v72 (Host.divf : (⟨S2x16x4096x32, .f32⟩ : BufTy).Contents (Elt F) → (⟨S2x16x4096x32, .f32⟩ : BufTy).Contents (Elt F) → (⟨S2x16x4096x32, .f32⟩ : BufTy).Contents (Elt F)),
    unary main_arg4 main_v73 ((transpose S32x32 [1, 0] · transposes_S32x32_S32x32_1_0) : (⟨S32x32, .f32⟩ : BufTy).Contents (Elt F) → (⟨S32x32, .f32⟩ : BufTy).Contents (Elt F)),
    binary main_v72 main_v73 main_v74 ((fun l r => Host.dotGeneral dot_S2x16x4096x32_S32x32_S2x16x4096x32_3_0_012_1_n_n none l r) : (⟨S2x16x4096x32, .f32⟩ : BufTy).Contents (Elt F) → (⟨S32x32, .f32⟩ : BufTy).Contents (Elt F) → (⟨S2x16x4096x32, .f32⟩ : BufTy).Contents (Elt F)),
    nullary main_cst_10 (constant S_ .f32 0x00000000#32),
    unary main_cst_10 main_v75 (broadcastInDim S2x16x4096x32 ![] bcast_S_S2x16x4096x32 : (⟨S_, .f32⟩ : BufTy).Contents (Elt F) → (⟨S2x16x4096x32, .f32⟩ : BufTy).Contents (Elt F)),
    binary main_v74 main_v75 main_v76 (cmpf .oge : (⟨S2x16x4096x32, .f32⟩ : BufTy).Contents (Elt F) → (⟨S2x16x4096x32, .f32⟩ : BufTy).Contents (Elt F) → (⟨S2x16x4096x32, .i1⟩ : BufTy).Contents (Elt F)),
    nullary main_cst_11 (constant S_ .f32 0x3F800000#32),
    nullary main_cst_12 (constant S_ .f32 0xBF800000#32),
    TRef.unary (TRef.of (T := ⟨S_, .f32⟩) main_cst_11) (TRef.of (T := ⟨S2x16x4096x32, .f32⟩) main_call17_v0) (broadcastInDim S2x16x4096x32 ![] bcast_S_S2x16x4096x32),
    TRef.unary (TRef.of (T := ⟨S_, .f32⟩) main_cst_12) (TRef.of (T := ⟨S2x16x4096x32, .f32⟩) main_call17_v1) (broadcastInDim S2x16x4096x32 ![] bcast_S_S2x16x4096x32),
    TRef.ternary (TRef.of (T := ⟨S2x16x4096x32, .i1⟩) main_v76) (TRef.of (T := ⟨S2x16x4096x32, .f32⟩) main_call17_v0) (TRef.of (T := ⟨S2x16x4096x32, .f32⟩) main_call17_v1) (TRef.of (T := ⟨S2x16x4096x32, .f32⟩) main_v77) select,
    unary main_v77 main_v78 (id : (⟨S2x16x4096x32, .f32⟩ : BufTy).Contents (Elt F) → (⟨S2x16x4096x32, .f32⟩ : BufTy).Contents (Elt F)),
    nullary main_cst_13 (constant S_ .f32 0x3FA06C99#32),
    nullary main_cst_14 (constant S_ .f32 0x42000000#32),
    binary main_cst_13 main_cst_14 main_v79 (Host.divf : (⟨S_, .f32⟩ : BufTy).Contents (Elt F) → (⟨S_, .f32⟩ : BufTy).Contents (Elt F) → (⟨S_, .f32⟩ : BufTy).Contents (Elt F)),
    binary main_v78 main_arg4 main_v80 ((fun l r => Host.dotGeneral dot_S2x16x4096x32_S32x32_S2x16x4096x32_3_0_012_1_n_n none l r) : (⟨S2x16x4096x32, .f32⟩ : BufTy).Contents (Elt F) → (⟨S32x32, .f32⟩ : BufTy).Contents (Elt F) → (⟨S2x16x4096x32, .f32⟩ : BufTy).Contents (Elt F)),
    unary main_v79 main_v81 (broadcastInDim S2x16x4096x32 ![] bcast_S_S2x16x4096x32 : (⟨S_, .f32⟩ : BufTy).Contents (Elt F) → (⟨S2x16x4096x32, .f32⟩ : BufTy).Contents (Elt F)),
    binary main_v81 main_v80 main_v82 (mulf : (⟨S2x16x4096x32, .f32⟩ : BufTy).Contents (Elt F) → (⟨S2x16x4096x32, .f32⟩ : BufTy).Contents (Elt F) → (⟨S2x16x4096x32, .f32⟩ : BufTy).Contents (Elt F)),
    unary main_v70 main_v83 (broadcastInDim S2x16x4096x32 ![0, 1, 2, 3] bcast_S2x16x4096x1_S2x16x4096x32_0_1_2_3 : (⟨S2x16x4096x1, .f32⟩ : BufTy).Contents (Elt F) → (⟨S2x16x4096x32, .f32⟩ : BufTy).Contents (Elt F)),
    binary main_v82 main_v83 main_v84 (mulf : (⟨S2x16x4096x32, .f32⟩ : BufTy).Contents (Elt F) → (⟨S2x16x4096x32, .f32⟩ : BufTy).Contents (Elt F) → (⟨S2x16x4096x32, .f32⟩ : BufTy).Contents (Elt F)),
    binary main_v67 main_v84 main_v85 (addf : (⟨S2x16x4096x32, .f32⟩ : BufTy).Contents (Elt F) → (⟨S2x16x4096x32, .f32⟩ : BufTy).Contents (Elt F) → (⟨S2x16x4096x32, .f32⟩ : BufTy).Contents (Elt F)) ]

/-- The buffers that `restOutOps` writes. -/
abbrev restOutOpsW : List (Ref sig .tc) := [main_v65, main_v66, main_v67, main_v68, main_call15_v0, main_call15_cst, main_call15_v1, main_call15_v2, main_v69, main_cst_9, main_call16_v0, main_call16_v1, main_v70, main_v71, main_v72, main_v73, main_v74, main_cst_10, main_v75, main_v76, main_cst_11, main_cst_12, main_call17_v0, main_call17_v1, main_v77, main_v78, main_cst_13, main_cst_14, main_v79, main_v80, main_v81, main_v82, main_v83, main_v84, main_v85]

/-- The groups joined and taken back to the channels' own order. -/
abbrev backOps : List (HloOp τ sig (Elt F)) :=
  [ binary main_v50 main_v85 main_v86 (concatGroups (F := F)),
    TRef.nullary (TRef.of (T := ⟨S2x16x128, .i32⟩) main_call18_v0) (iotaInDim S2x16x128 32 2),
    TRef.binary (TRef.of (T := ⟨S2x16x128, .i32⟩) main_v10) (TRef.of (T := ⟨S2x16x128, .i32⟩) main_call18_v0) (TRef.of (T := ⟨S2x16x128, .i32⟩) main_call18_v1_0) (fun x y => (Host.sort2 S2x16x128 2 comparator_i32_i32_d2 x y).1),
    TRef.binary (TRef.of (T := ⟨S2x16x128, .i32⟩) main_v10) (TRef.of (T := ⟨S2x16x128, .i32⟩) main_call18_v0) (TRef.of (T := ⟨S2x16x128, .i32⟩) main_v87) (fun x y => (Host.sort2 S2x16x128 2 comparator_i32_i32_d2 x y).2),
    unary main_v87 main_v88 (broadcastInDim S2x16x1x128 ![0, 1, 3] bcast_S2x16x128_S2x16x1x128_0_1_3 : (⟨S2x16x128, .i32⟩ : BufTy).Contents (Elt F) → (⟨S2x16x1x128, .i32⟩ : BufTy).Contents (Elt F)),
    unary main_v88 main_v89 (broadcastInDim S2x16x4096x128 ![0, 1, 2, 3] bcast_S2x16x1x128_S2x16x4096x128_0_1_2_3 : (⟨S2x16x1x128, .i32⟩ : BufTy).Contents (Elt F) → (⟨S2x16x4096x128, .i32⟩ : BufTy).Contents (Elt F)),
    TRef.nullary (TRef.of (T := ⟨S_, .i32⟩) main_call19_c) (constantI S_ 32 0#32),
    TRef.unary (TRef.of (T := ⟨S_, .i32⟩) main_call19_c) (TRef.of (T := ⟨S2x16x4096x128, .i32⟩) main_call19_v0) (broadcastInDim S2x16x4096x128 ![] bcast_S_S2x16x4096x128),
    TRef.binary (TRef.of (T := ⟨S2x16x4096x128, .i32⟩) main_v89) (TRef.of (T := ⟨S2x16x4096x128, .i32⟩) main_call19_v0) (TRef.of (T := ⟨S2x16x4096x128, .i1⟩) main_call19_v1) (cmpi .slt),
    TRef.nullary (TRef.of (T := ⟨S_, .i32⟩) main_call19_c_0) (constantI S_ 32 128#32),
    TRef.unary (TRef.of (T := ⟨S_, .i32⟩) main_call19_c_0) (TRef.of (T := ⟨S2x16x4096x128, .i32⟩) main_call19_v2) (broadcastInDim S2x16x4096x128 ![] bcast_S_S2x16x4096x128),
    TRef.binary (TRef.of (T := ⟨S2x16x4096x128, .i32⟩) main_v89) (TRef.of (T := ⟨S2x16x4096x128, .i32⟩) main_call19_v2) (TRef.of (T := ⟨S2x16x4096x128, .i32⟩) main_call19_v3) addi,
    TRef.ternary (TRef.of (T := ⟨S2x16x4096x128, .i1⟩) main_call19_v1) (TRef.of (T := ⟨S2x16x4096x128, .i32⟩) main_call19_v3) (TRef.of (T := ⟨S2x16x4096x128, .i32⟩) main_v89) (TRef.of (T := ⟨S2x16x4096x128, .i32⟩) main_call19_v4) select,
    TRef.reshape (TRef.of (T := ⟨S2x16x4096x128, .i32⟩) main_call19_v4) (TRef.of (T := ⟨S2x16x4096x128x1, .i32⟩) main_call19_v5) (rfl : (.i32 : EltTy) = .i32) shapeCasts_S2x16x4096x128_S2x16x4096x128x1,
    TRef.nullary (TRef.of (T := ⟨S1, .i32⟩) main_call19_c_1) (constantI S1 32 127#32),
    TRef.nullary (TRef.of (T := ⟨S_, .i32⟩) main_call19_c_2) (constantI S_ 32 0#32),
    TRef.unary (TRef.of (T := ⟨S_, .i32⟩) main_call19_c_2) (TRef.of (T := ⟨S2x16x4096x128x1, .i32⟩) main_call19_v6) (broadcastInDim S2x16x4096x128x1 ![] bcast_S_S2x16x4096x128x1),
    TRef.binary (TRef.of (T := ⟨S2x16x4096x128x1, .i32⟩) main_call19_v5) (TRef.of (T := ⟨S2x16x4096x128x1, .i32⟩) main_call19_v6) (TRef.of (T := ⟨S2x16x4096x128x1, .i1⟩) main_call19_v7) (cmpi .sge),
    TRef.unary (TRef.of (T := ⟨S1, .i32⟩) main_call19_c_1) (TRef.of (T := ⟨S1x1x1x1x1, .i32⟩) main_call19_v8) (broadcastInDim S1x1x1x1x1 ![4] bcast_S1_S1x1x1x1x1_4),
    TRef.unary (TRef.of (T := ⟨S1x1x1x1x1, .i32⟩) main_call19_v8) (TRef.of (T := ⟨S2x16x4096x128x1, .i32⟩) main_call19_v9) (broadcastInDim S2x16x4096x128x1 ![0, 1, 2, 3, 4] bcast_S1x1x1x1x1_S2x16x4096x128x1_0_1_2_3_4),
    TRef.binary (TRef.of (T := ⟨S2x16x4096x128x1, .i32⟩) main_call19_v5) (TRef.of (T := ⟨S2x16x4096x128x1, .i32⟩) main_call19_v9) (TRef.of (T := ⟨S2x16x4096x128x1, .i1⟩) main_call19_v10) (cmpi .sle),
    TRef.binary (TRef.of (T := ⟨S2x16x4096x128x1, .i1⟩) main_call19_v7) (TRef.of (T := ⟨S2x16x4096x128x1, .i1⟩) main_call19_v10) (TRef.of (T := ⟨S2x16x4096x128x1, .i1⟩) main_call19_v11) andi,
    TRef.nullary (TRef.of (T := ⟨S_, .i1⟩) main_call19_c_3) (constantI S_ 1 1#1),
    TRef.binary (TRef.of (T := ⟨S2x16x4096x128x1, .i1⟩) main_call19_v11) (TRef.of (T := ⟨S_, .i1⟩) main_call19_c_3) (TRef.of (T := ⟨S2x16x4096x128, .i1⟩) main_call19_v12) (fun x v => Host.reduce IntOp.andi x v reducesTo_S2x16x4096x128x1_S2x16x4096x128_d4 h_S_),
    TRef.binary (TRef.of (T := ⟨S2x16x4096x128, .f32⟩) main_v86) (TRef.of (T := ⟨S2x16x4096x128x1, .i32⟩) main_call19_v5) (TRef.of (T := ⟨S2x16x4096x128, .f32⟩) main_call19_v13) (fun x i => Host.gather gather_S2x16x4096x128_S2x16x4096x128x1_S2x16x4096x128_n_3_012_012_3_4_1111 x i),
    TRef.nullary (TRef.of (T := ⟨S_, .f32⟩) main_call19_cst) (constant S_ .f32 0x7FC00000#32),
    TRef.unary (TRef.of (T := ⟨S_, .f32⟩) main_call19_cst) (TRef.of (T := ⟨S2x16x4096x128, .f32⟩) main_call19_v14) (broadcastInDim S2x16x4096x128 ![] bcast_S_S2x16x4096x128),
    TRef.ternary (TRef.of (T := ⟨S2x16x4096x128, .i1⟩) main_call19_v12) (TRef.of (T := ⟨S2x16x4096x128, .f32⟩) main_call19_v13) (TRef.of (T := ⟨S2x16x4096x128, .f32⟩) main_call19_v14) (TRef.of (T := ⟨S2x16x4096x128, .f32⟩) main_v90) select ]

/-- The buffers that `backOps` writes. -/
abbrev backOpsW : List (Ref sig .tc) := [main_v86, main_call18_v0, main_call18_v1_0, main_v87, main_v88, main_v89, main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_cst, main_call19_v14, main_v90]

/-- The first half of @main. -/
def ops1 : List (HloOp τ sig (Elt F)) :=
  maskOps ++ (gatherOps ++ (yRegOps ++ (qRegOps ++ restRegOpsA)))

/-- The second half of @main. -/
def ops2 : List (HloOp τ sig (Elt F)) :=
  restRegOpsB ++ (yOutOps ++ (qOutOps ++ (restOutOps ++ backOps)))

/-- All of @main, in order. -/
abbrev ops : List (HloOp τ sig (Elt F)) := ops1 ++ ops2

set_option maxHeartbeats 4000000 in
theorem part0_eq (c : Dev nD) : main_part0 (F := F) c = seq ops1 := rfl

set_option maxHeartbeats 4000000 in
theorem part1_eq (c : Dev nD) : main_part1 (F := F) c = seq ops2 := rfl

theorem main_eq (c : Dev nD) : main (F := F) c = seq ops := by
  simp only [ops, seq_append, ← part0_eq c, ← part1_eq c]
  rfl

theorem scopedRefs_eq : (Finset.univ.filter fun b : Ref sig .tc => b.isScoped) = ∅ := by decide

theorem scopedSems_eq : (Finset.univ.filter fun sm : SemLoc sig => sm.isScoped .tc) = ∅ := by decide

theorem maskOps_sub : (maskOps : List (HloOp τ sig (Elt F))).Forall fun op => op.bufs ⊆ tcRefs τ sig :=
  ⟨nullary_bufs_sub .., nullary_bufs_sub .., binary_bufs_sub .., nullary_bufs_sub .., binary_bufs_sub .., unary_bufs_sub .., unary_bufs_sub .., unary_bufs_sub .., unary_bufs_sub .., nullary_bufs_sub .., unary_bufs_sub .., unary_bufs_sub .., unary_bufs_sub .., unary_bufs_sub .., binary_bufs_sub .., nullary_bufs_sub .., binary_bufs_sub .., unary_bufs_sub .., nullary_bufs_sub .., binary_bufs_sub .., binary_bufs_sub ..⟩

theorem maskOps_fresh : (maskOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

theorem maskOps_writes : (maskOps : List (HloOp τ sig (Elt F))).Forall fun op =>
    op.writes ⊆ (maskOpsW.map (Proc.devRef (τ := τ) .tc)).toFinset :=
  forall_writes_sub_of_map rfl

theorem gatherOps_sub : (gatherOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub ..⟩

theorem gatherOps_fresh : (gatherOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem gatherOps_writes : (gatherOps : List (HloOp τ sig (Elt F))).Forall fun op =>
    op.writes ⊆ (gatherOpsW.map (Proc.devRef (τ := τ) .tc)).toFinset :=
  forall_writes_sub_of_map rfl

theorem yRegOps_sub : (yRegOps : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub ..⟩

theorem yRegOps_fresh : (yRegOps : List (HloOp τ sig (Elt F))).Forall fun op => op.fresh = ∅ :=
  ⟨rfl, rfl, rfl, rfl, rfl, rfl, rfl, rfl, rfl, rfl, rfl, rfl, rfl⟩

theorem yRegOps_writes : (yRegOps : List (HloOp τ sig (Elt F))).Forall fun op =>
    op.writes ⊆ (yRegOpsW.map (Proc.devRef (τ := τ) .tc)).toFinset :=
  forall_writes_sub_of_map rfl

theorem qRegOps_sub : (qRegOps : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem qRegOps_fresh : (qRegOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem qRegOps_writes : (qRegOps : List (HloOp τ sig (Elt F))).Forall fun op =>
    op.writes ⊆ (qRegOpsW.map (Proc.devRef (τ := τ) .tc)).toFinset :=
  forall_writes_sub_of_map rfl

theorem restRegOpsA_sub : (restRegOpsA : List (HloOp τ sig (Elt F))).Forall fun op => op.bufs ⊆ tcRefs τ sig :=
  ⟨binary_bufs_sub .., unary_bufs_sub .., binary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., nullary_bufs_sub .., binary_bufs_sub .., binary_bufs_sub .., unary_bufs_sub .., binary_bufs_sub ..⟩

theorem restRegOpsA_fresh : (restRegOpsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem restRegOpsA_writes : (restRegOpsA : List (HloOp τ sig (Elt F))).Forall fun op =>
    op.writes ⊆ (restRegOpsAW.map (Proc.devRef (τ := τ) .tc)).toFinset :=
  forall_writes_sub_of_map rfl

theorem restRegOpsB_sub : (restRegOpsB : List (HloOp τ sig (Elt F))).Forall fun op => op.bufs ⊆ tcRefs τ sig :=
  ⟨unary_bufs_sub .., binary_bufs_sub .., binary_bufs_sub ..⟩

theorem restRegOpsB_fresh : (restRegOpsB : List (HloOp τ sig (Elt F))).Forall fun op => op.fresh = ∅ :=
  ⟨rfl, rfl, rfl⟩

theorem restRegOpsB_writes : (restRegOpsB : List (HloOp τ sig (Elt F))).Forall fun op =>
    op.writes ⊆ (restRegOpsBW.map (Proc.devRef (τ := τ) .tc)).toFinset :=
  forall_writes_sub_of_map rfl

theorem yOutOps_sub : (yOutOps : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub ..⟩

theorem yOutOps_fresh : (yOutOps : List (HloOp τ sig (Elt F))).Forall fun op => op.fresh = ∅ :=
  ⟨rfl, rfl, rfl, rfl, rfl, rfl, rfl, rfl, rfl, rfl, rfl, rfl, rfl⟩

theorem yOutOps_writes : (yOutOps : List (HloOp τ sig (Elt F))).Forall fun op =>
    op.writes ⊆ (yOutOpsW.map (Proc.devRef (τ := τ) .tc)).toFinset :=
  forall_writes_sub_of_map rfl

theorem qOutOps_sub : (qOutOps : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem qOutOps_fresh : (qOutOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem qOutOps_writes : (qOutOps : List (HloOp τ sig (Elt F))).Forall fun op =>
    op.writes ⊆ (qOutOpsW.map (Proc.devRef (τ := τ) .tc)).toFinset :=
  forall_writes_sub_of_map rfl

theorem restOutOps_sub : (restOutOps : List (HloOp τ sig (Elt F))).Forall fun op => op.bufs ⊆ tcRefs τ sig :=
  ⟨binary_bufs_sub .., unary_bufs_sub .., binary_bufs_sub .., binary_bufs_sub .., binary_bufs_sub .., nullary_bufs_sub .., binary_bufs_sub .., unary_bufs_sub .., unary_bufs_sub .., nullary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., nullary_bufs_sub .., binary_bufs_sub .., binary_bufs_sub .., unary_bufs_sub .., binary_bufs_sub .., unary_bufs_sub .., binary_bufs_sub .., binary_bufs_sub ..⟩

theorem restOutOps_fresh : (restOutOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem restOutOps_writes : (restOutOps : List (HloOp τ sig (Elt F))).Forall fun op =>
    op.writes ⊆ (restOutOpsW.map (Proc.devRef (τ := τ) .tc)).toFinset :=
  forall_writes_sub_of_map rfl

theorem backOps_sub : (backOps : List (HloOp τ sig (Elt F))).Forall fun op => op.bufs ⊆ tcRefs τ sig :=
  ⟨binary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem backOps_fresh : (backOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem backOps_writes : (backOps : List (HloOp τ sig (Elt F))).Forall fun op =>
    op.writes ⊆ (backOpsW.map (Proc.devRef (τ := τ) .tc)).toFinset :=
  forall_writes_sub_of_map rfl

theorem ops_sub : (ops : List (HloOp τ sig (Elt F))).Forall fun op => op.bufs ⊆ tcRefs τ sig :=
  List.forall_iff_forall_mem.mpr fun op h => by
    simp only [ops, ops1, ops2, List.mem_append, or_assoc] at h
    rcases h with h | h | h | h | h | h | h | h | h | h
    exacts [List.forall_iff_forall_mem.mp maskOps_sub op h, List.forall_iff_forall_mem.mp gatherOps_sub op h, List.forall_iff_forall_mem.mp yRegOps_sub op h, List.forall_iff_forall_mem.mp qRegOps_sub op h, List.forall_iff_forall_mem.mp restRegOpsA_sub op h, List.forall_iff_forall_mem.mp restRegOpsB_sub op h, List.forall_iff_forall_mem.mp yOutOps_sub op h, List.forall_iff_forall_mem.mp qOutOps_sub op h, List.forall_iff_forall_mem.mp restOutOps_sub op h, List.forall_iff_forall_mem.mp backOps_sub op h]

theorem ops_fresh : ∀ op ∈ (ops : List (HloOp τ sig (Elt F))), op.fresh = ∅ := fun op h => by
  simp only [ops, ops1, ops2, List.mem_append, or_assoc] at h
  rcases h with h | h | h | h | h | h | h | h | h | h
  exacts [List.forall_iff_forall_mem.mp maskOps_fresh op h, List.forall_iff_forall_mem.mp gatherOps_fresh op h, List.forall_iff_forall_mem.mp yRegOps_fresh op h, List.forall_iff_forall_mem.mp qRegOps_fresh op h, List.forall_iff_forall_mem.mp restRegOpsA_fresh op h, List.forall_iff_forall_mem.mp restRegOpsB_fresh op h, List.forall_iff_forall_mem.mp yOutOps_fresh op h, List.forall_iff_forall_mem.mp qOutOps_fresh op h, List.forall_iff_forall_mem.mp restOutOps_fresh op h, List.forall_iff_forall_mem.mp backOps_fresh op h]

end Cert.RefRun

end
-- ==== Proof.RefRun.lean ====
/-
  The reference's run: what each stage leaves in the buffer the next stage reads, as a named function of what the stage
  reads, and their composition `result`, which every weakly fair execution of the reference ends with.
-/
module

public import proofs.«01_k».proof.Proof.RefOps

@[expose] public section

set_option maxRecDepth 16384
set_option Elab.async false

noncomputable section

namespace Cert.RefRun

open Cert.ReferenceIdeal Cert.ReferenceIdeal.Gen Idealize.ShloMosaic Idealize.ShloMosaic.TcCoe Idealize.SL.Sem
open Idealize.ShloMosaic.StableHlo

variable {F : FTy → Type} [FloatOps F]

/-- Contents of a buffer with the given dimensions and element type. -/
abbrev T (F : FTy → Type) [FloatOps F] (s : Shape) (e : EltTy) : Type := (⟨s, e⟩ : BufTy).Contents (Elt F)

/-- The channels' norms over the rows. -/
def channelNorms (x : T F S2x16x4096x128 .f32) : T F S2x16x128 .f32 :=
  Host.sqrt (Host.reduceAdd (mulf x x) (constant S_ .f32 0x00000000#32) reducesTo_S2x16x4096x128_S2x16x128_d2 h_S_)

/-- The sorted indices of the 32 greatest norms. -/
def outIdx (v : T F S2x16x128 .f32) : T F S2x16x32 .i32 :=
  Host.sort S2x16x32 2 comparator_i32_d2
    (Host.topK S2x16x32 2 (FloatOps.cmpfTotal .gt) v sliceFits_S2x16x128_S2x16x32).2

/-- One where a channel's index occurs among the given ones, as a 32-bit integer. -/
def isAmong (ix : T F S2x16x32 .i32) : T F S2x16x128 .i32 :=
  extui 32
    (Host.reduce IntOp.ori
      (cmpi .eq
        (broadcastInDim S2x16x128x32 ![0, 1, 2, 3] bcast_S1x1x128x1_S2x16x128x32_0_1_2_3
          (broadcastInDim S1x1x128x1 ![2] bcast_S128_S1x1x128x1_2 (iotaInDim S128 32 0)))
        (broadcastInDim S2x16x128x32 ![0, 1, 2, 3] bcast_S2x16x1x32_S2x16x128x32_0_1_2_3
          (broadcastInDim S2x16x1x32 ![0, 1, 3] bcast_S2x16x32_S2x16x1x32_0_1_3 ix)))
      (constantI S_ 1 0#1) reducesTo_S2x16x128x32_S2x16x128_d3 h_S_)
    natLt_1_32

/-- The stable order of the channels by a key: the indices, sorted together with the keys. -/
def orderOf (k : T F S2x16x128 .i32) : T F S2x16x128 .i32 :=
  (Host.sort2 S2x16x128 2 comparator_i32_i32_d2 k (iotaInDim S2x16x128 32 2)).2

/-- An index per (batch, head, channel), spread over the rows, negative ones wrapped, with a last dimension of one. -/
def wrapIdx (p : T F S2x16x128 .i32) : T F S2x16x4096x128x1 .i32 :=
  shapeCast _
    (select
      (cmpi .slt
        (broadcastInDim S2x16x4096x128 ![0, 1, 2, 3] bcast_S2x16x1x128_S2x16x4096x128_0_1_2_3
          (broadcastInDim S2x16x1x128 ![0, 1, 3] bcast_S2x16x128_S2x16x1x128_0_1_3 p))
        (broadcastInDim S2x16x4096x128 ![] bcast_S_S2x16x4096x128 (constantI S_ 32 0#32)))
      (addi
        (broadcastInDim S2x16x4096x128 ![0, 1, 2, 3] bcast_S2x16x1x128_S2x16x4096x128_0_1_2_3
          (broadcastInDim S2x16x1x128 ![0, 1, 3] bcast_S2x16x128_S2x16x1x128_0_1_3 p))
        (broadcastInDim S2x16x4096x128 ![] bcast_S_S2x16x4096x128 (constantI S_ 32 128#32)))
      (broadcastInDim S2x16x4096x128 ![0, 1, 2, 3] bcast_S2x16x1x128_S2x16x4096x128_0_1_2_3
        (broadcastInDim S2x16x1x128 ![0, 1, 3] bcast_S2x16x128_S2x16x1x128_0_1_3 p)))
    shapeCasts_S2x16x4096x128_S2x16x4096x128x1

/-- The entries of `a` along the channels at wrapped indices, with a fill outside the range. -/
def takeWrapped (a : T F S2x16x4096x128 .f32) (i : T F S2x16x4096x128x1 .i32) : T F S2x16x4096x128 .f32 :=
  select
    (Host.reduce IntOp.andi
      (andi
        (cmpi .sge i (broadcastInDim S2x16x4096x128x1 ![] bcast_S_S2x16x4096x128x1 (constantI S_ 32 0#32)))
        (cmpi .sle i
          (broadcastInDim S2x16x4096x128x1 ![0, 1, 2, 3, 4] bcast_S1x1x1x1x1_S2x16x4096x128x1_0_1_2_3_4
            (broadcastInDim S1x1x1x1x1 ![4] bcast_S1_S1x1x1x1x1_4 (constantI S1 32 127#32)))))
      (constantI S_ 1 1#1) reducesTo_S2x16x4096x128x1_S2x16x4096x128_d4 h_S_)
    (Host.gather gather_S2x16x4096x128_S2x16x4096x128x1_S2x16x4096x128_n_3_012_012_3_4_1111 a i)
    (broadcastInDim S2x16x4096x128 ![] bcast_S_S2x16x4096x128 (constant S_ .f32 0x7FC00000#32))

/-- The entries of `a` along the channels at the given channel indices. -/
def takeChannels (a : T F S2x16x4096x128 .f32) (p : T F S2x16x128 .i32) : T F S2x16x4096x128 .f32 :=
  takeWrapped a (wrapIdx p)

/-- The first 96 channels. -/
def firstGroup (a : T F S2x16x4096x128 .f32) : T F S2x16x4096x96 .f32 :=
  extractStridedSlice S2x16x4096x96 ![0, 0, 0, 0] a slices_S2x16x4096x128_S2x16x4096x96_0_0_0_0

/-- The last 32 channels. -/
def secondGroup (a : T F S2x16x4096x128 .f32) : T F S2x16x4096x32 .f32 :=
  extractStridedSlice S2x16x4096x32 ![0, 0, 0, 96] a slices_S2x16x4096x128_S2x16x4096x32_0_0_0_96

/-! The first group's round trip. -/

/-- The rows' norms, bounded below by the constant of word `w`. -/
def rowNorm96 (w : BitVec 32) (x : T F S2x16x4096x96 .f32) : T F S2x16x4096x1 .f32 :=
  maximumf (broadcastInDim S2x16x4096x1 ![] bcast_S_S2x16x4096x1 (id (constant S_ .f32 w)))
    (Host.sqrt (broadcastInDim S2x16x4096x1 ![0, 1, 2] bcast_S2x16x4096_S2x16x4096x1_0_1_2
      (Host.reduceAdd (mulf x x) (constant S_ .f32 0x00000000#32) reducesTo_S2x16x4096x96_S2x16x4096_d3 h_S_)))

/-- One number per row, spread over the row. -/
def spread96 (n : T F S2x16x4096x1 .f32) : T F S2x16x4096x96 .f32 :=
  broadcastInDim S2x16x4096x96 ![0, 1, 2, 3] bcast_S2x16x4096x1_S2x16x4096x96_0_1_2_3 n

/-- The rows times a matrix. -/
def times96 (x : T F S2x16x4096x96 .f32) (r : T F S96x96 .f32) : T F S2x16x4096x96 .f32 :=
  Host.dotGeneral dot_S2x16x4096x96_S96x96_S2x16x4096x96_3_0_012_1_n_n none x r

/-- The rows divided by their numbers, times a matrix transposed. -/
def project96 (x : T F S2x16x4096x96 .f32) (n : T F S2x16x4096x1 .f32) (r : T F S96x96 .f32) : T F S2x16x4096x96 .f32 :=
  times96 (Host.divf x (spread96 n)) (transpose S96x96 [1, 0] r transposes_S96x96_S96x96_1_0)

/-- The distances to the two levels. -/
def distances96 (l : T F S2 .f32) (y : T F S2x16x4096x96 .f32) : T F S2x16x4096x96x2 .f32 :=
  Host.absf (subf
    (broadcastInDim S2x16x4096x96x2 ![0, 1, 2, 3, 4] bcast_S2x16x4096x96x1_S2x16x4096x96x2_0_1_2_3_4
      (broadcastInDim S2x16x4096x96x1 ![0, 1, 2, 3] bcast_S2x16x4096x96_S2x16x4096x96x1_0_1_2_3 y))
    (broadcastInDim S2x16x4096x96x2 ![0, 1, 2, 3, 4] bcast_S1x1x1x1x2_S2x16x4096x96x2_0_1_2_3_4
      (broadcastInDim S1x1x1x1x2 ![4] bcast_S2_S1x1x1x1x2_4 l)))

/-- The index of the least distance. -/
def nearest96 (d : T F S2x16x4096x96x2 .f32) : T F S2x16x4096x96 .i32 := fun j =>
  (Host.argReduce reducer_argmin_f32_i32 d (iotaInDim S2x16x4096x96x2 32 4) (constant S_ .f32 0x7F800000#32)
    (constantI S_ 32 0#32) reducesTo_S2x16x4096x96x2_S2x16x4096x96_d4 h_S_ j).2

/-- A level index, negative ones wrapped, with a last dimension of one. -/
def wrapLevel96 (i : T F S2x16x4096x96 .i32) : T F S2x16x4096x96x1 .i32 :=
  broadcastInDim S2x16x4096x96x1 ![0, 1, 2, 3] bcast_S2x16x4096x96_S2x16x4096x96x1_0_1_2_3
    (select (cmpi .slt i (broadcastInDim S2x16x4096x96 ![] bcast_S_S2x16x4096x96 (constantI S_ 32 0#32)))
      (addi i (broadcastInDim S2x16x4096x96 ![] bcast_S_S2x16x4096x96 (constantI S_ 32 2#32))) i)

/-- The levels at wrapped indices, with a fill outside the range. -/
def levelAt96 (l : T F S2 .f32) (i : T F S2x16x4096x96x1 .i32) : T F S2x16x4096x96 .f32 :=
  select
    (Host.reduce IntOp.andi
      (andi
        (cmpi .sge i (broadcastInDim S2x16x4096x96x1 ![] bcast_S_S2x16x4096x96x1 (constantI S_ 32 0#32)))
        (cmpi .sle i
          (broadcastInDim S2x16x4096x96x1 ![0, 1, 2, 3, 4] bcast_S1x1x1x1x1_S2x16x4096x96x1_0_1_2_3_4
            (broadcastInDim S1x1x1x1x1 ![4] bcast_S1_S1x1x1x1x1_4 (constantI S1 32 1#32)))))
      (constantI S_ 1 1#1) reducesTo_S2x16x4096x96x1_S2x16x4096x96_d4 h_S_)
    (Host.gather gather_S2_S2x16x4096x96x1_S2x16x4096x96_n_0_n_n_0_4_1 l i)
    (broadcastInDim S2x16x4096x96 ![] bcast_S_S2x16x4096x96 (constant S_ .f32 0x7FC00000#32))

/-- Each number's nearest of two levels. -/
def quantise96 (l : T F S2 .f32) (y : T F S2x16x4096x96 .f32) : T F S2x16x4096x96 .f32 :=
  levelAt96 l (wrapLevel96 (nearest96 (distances96 l y)))

/-- One where a number is at least zero, minus one elsewhere. -/
def signs96 (p : T F S2x16x4096x96 .f32) : T F S2x16x4096x96 .f32 :=
  id (select (cmpf .oge p (broadcastInDim S2x16x4096x96 ![] bcast_S_S2x16x4096x96 (constant S_ .f32 0x00000000#32)))
    (broadcastInDim S2x16x4096x96 ![] bcast_S_S2x16x4096x96 (constant S_ .f32 0x3F800000#32))
    (broadcastInDim S2x16x4096x96 ![] bcast_S_S2x16x4096x96 (constant S_ .f32 0xBF800000#32)))

/-- The rotated-back levels, scaled by the rows' norms. -/
def firstStage96 (n : T F S2x16x4096x1 .f32) (q : T F S2x16x4096x96 .f32) (r : T F S96x96 .f32) : T F S2x16x4096x96 .f32 :=
  mulf (times96 q r) (spread96 n)

/-- The sign bits of the projected residual, projected back and scaled. -/
def secondStage96 (e : T F S2x16x4096x96 .f32) (s : T F S96x96 .f32) : T F S2x16x4096x96 .f32 :=
  mulf (mulf
      (broadcastInDim S2x16x4096x96 ![] bcast_S_S2x16x4096x96
        (Host.divf (constant S_ .f32 0x3FA06C99#32) (constant S_ .f32 0x42C00000#32)))
      (times96 (signs96 (project96 e (rowNorm96 0x2EDBE6FF#32 e) s)) s))
    (spread96 (rowNorm96 0x2EDBE6FF#32 e))

/-- Both stages of a group whose rotated unit rows are quantised to `q`. -/
def bothStages96 (x : T F S2x16x4096x96 .f32) (n : T F S2x16x4096x1 .f32) (q : T F S2x16x4096x96 .f32)
    (r s : T F S96x96 .f32) : T F S2x16x4096x96 .f32 :=
  addf (firstStage96 n q r) (secondStage96 (subf x (firstStage96 n q r)) s)

/-- The first group's round trip. -/
def roundTrip96 (l : T F S2 .f32) (x : T F S2x16x4096x96 .f32) (r s : T F S96x96 .f32) : T F S2x16x4096x96 .f32 :=
  bothStages96 x (rowNorm96 0x322BCC77#32 x) (quantise96 l (project96 x (rowNorm96 0x322BCC77#32 x) r)) r s

/-! The second group's round trip. -/

/-- The rows' norms, bounded below by the constant of word `w`. -/
def rowNorm32 (w : BitVec 32) (x : T F S2x16x4096x32 .f32) : T F S2x16x4096x1 .f32 :=
  maximumf (broadcastInDim S2x16x4096x1 ![] bcast_S_S2x16x4096x1 (id (constant S_ .f32 w)))
    (Host.sqrt (broadcastInDim S2x16x4096x1 ![0, 1, 2] bcast_S2x16x4096_S2x16x4096x1_0_1_2
      (Host.reduceAdd (mulf x x) (constant S_ .f32 0x00000000#32) reducesTo_S2x16x4096x32_S2x16x4096_d3 h_S_)))

/-- One number per row, spread over the row. -/
def spread32 (n : T F S2x16x4096x1 .f32) : T F S2x16x4096x32 .f32 :=
  broadcastInDim S2x16x4096x32 ![0, 1, 2, 3] bcast_S2x16x4096x1_S2x16x4096x32_0_1_2_3 n

/-- The rows times a matrix. -/
def times32 (x : T F S2x16x4096x32 .f32) (r : T F S32x32 .f32) : T F S2x16x4096x32 .f32 :=
  Host.dotGeneral dot_S2x16x4096x32_S32x32_S2x16x4096x32_3_0_012_1_n_n none x r

/-- The rows divided by their numbers, times a matrix transposed. -/
def project32 (x : T F S2x16x4096x32 .f32) (n : T F S2x16x4096x1 .f32) (r : T F S32x32 .f32) : T F S2x16x4096x32 .f32 :=
  times32 (Host.divf x (spread32 n)) (transpose S32x32 [1, 0] r transposes_S32x32_S32x32_1_0)

/-- The distances to the four levels. -/
def distances32 (l : T F S4 .f32) (y : T F S2x16x4096x32 .f32) : T F S2x16x4096x32x4 .f32 :=
  Host.absf (subf
    (broadcastInDim S2x16x4096x32x4 ![0, 1, 2, 3, 4] bcast_S2x16x4096x32x1_S2x16x4096x32x4_0_1_2_3_4
      (broadcastInDim S2x16x4096x32x1 ![0, 1, 2, 3] bcast_S2x16x4096x32_S2x16x4096x32x1_0_1_2_3 y))
    (broadcastInDim S2x16x4096x32x4 ![0, 1, 2, 3, 4] bcast_S1x1x1x1x4_S2x16x4096x32x4_0_1_2_3_4
      (broadcastInDim S1x1x1x1x4 ![4] bcast_S4_S1x1x1x1x4_4 l)))

/-- The index of the least distance. -/
def nearest32 (d : T F S2x16x4096x32x4 .f32) : T F S2x16x4096x32 .i32 := fun j =>
  (Host.argReduce reducer_argmin_f32_i32 d (iotaInDim S2x16x4096x32x4 32 4) (constant S_ .f32 0x7F800000#32)
    (constantI S_ 32 0#32) reducesTo_S2x16x4096x32x4_S2x16x4096x32_d4 h_S_ j).2

/-- A level index, negative ones wrapped, with a last dimension of one. -/
def wrapLevel32 (i : T F S2x16x4096x32 .i32) : T F S2x16x4096x32x1 .i32 :=
  broadcastInDim S2x16x4096x32x1 ![0, 1, 2, 3] bcast_S2x16x4096x32_S2x16x4096x32x1_0_1_2_3
    (select (cmpi .slt i (broadcastInDim S2x16x4096x32 ![] bcast_S_S2x16x4096x32 (constantI S_ 32 0#32)))
      (addi i (broadcastInDim S2x16x4096x32 ![] bcast_S_S2x16x4096x32 (constantI S_ 32 4#32))) i)

/-- The levels at wrapped indices, with a fill outside the range. -/
def levelAt32 (l : T F S4 .f32) (i : T F S2x16x4096x32x1 .i32) : T F S2x16x4096x32 .f32 :=
  select
    (Host.reduce IntOp.andi
      (andi
        (cmpi .sge i (broadcastInDim S2x16x4096x32x1 ![] bcast_S_S2x16x4096x32x1 (constantI S_ 32 0#32)))
        (cmpi .sle i
          (broadcastInDim S2x16x4096x32x1 ![0, 1, 2, 3, 4] bcast_S1x1x1x1x1_S2x16x4096x32x1_0_1_2_3_4
            (broadcastInDim S1x1x1x1x1 ![4] bcast_S1_S1x1x1x1x1_4 (constantI S1 32 3#32)))))
      (constantI S_ 1 1#1) reducesTo_S2x16x4096x32x1_S2x16x4096x32_d4 h_S_)
    (Host.gather gather_S4_S2x16x4096x32x1_S2x16x4096x32_n_0_n_n_0_4_1 l i)
    (broadcastInDim S2x16x4096x32 ![] bcast_S_S2x16x4096x32 (constant S_ .f32 0x7FC00000#32))

/-- Each number's nearest of four levels. -/
def quantise32 (l : T F S4 .f32) (y : T F S2x16x4096x32 .f32) : T F S2x16x4096x32 .f32 :=
  levelAt32 l (wrapLevel32 (nearest32 (distances32 l y)))

/-- One where a number is at least zero, minus one elsewhere. -/
def signs32 (p : T F S2x16x4096x32 .f32) : T F S2x16x4096x32 .f32 :=
  id (select (cmpf .oge p (broadcastInDim S2x16x4096x32 ![] bcast_S_S2x16x4096x32 (constant S_ .f32 0x00000000#32)))
    (broadcastInDim S2x16x4096x32 ![] bcast_S_S2x16x4096x32 (constant S_ .f32 0x3F800000#32))
    (broadcastInDim S2x16x4096x32 ![] bcast_S_S2x16x4096x32 (constant S_ .f32 0xBF800000#32)))

/-- The rotated-back levels, scaled by the rows' norms. -/
def firstStage32 (n : T F S2x16x4096x1 .f32) (q : T F S2x16x4096x32 .f32) (r : T F S32x32 .f32) : T F S2x16x4096x32 .f32 :=
  mulf (times32 q r) (spread32 n)

/-- The sign bits of the projected residual, projected back and scaled. -/
def secondStage32 (e : T F S2x16x4096x32 .f32) (s : T F S32x32 .f32) : T F S2x16x4096x32 .f32 :=
  mulf (mulf
      (broadcastInDim S2x16x4096x32 ![] bcast_S_S2x16x4096x32
        (Host.divf (constant S_ .f32 0x3FA06C99#32) (constant S_ .f32 0x42000000#32)))
      (times32 (signs32 (project32 e (rowNorm32 0x2EDBE6FF#32 e) s)) s))
    (spread32 (rowNorm32 0x2EDBE6FF#32 e))

/-- Both stages of a group whose rotated unit rows are quantised to `q`. -/
def bothStages32 (x : T F S2x16x4096x32 .f32) (n : T F S2x16x4096x1 .f32) (q : T F S2x16x4096x32 .f32)
    (r s : T F S32x32 .f32) : T F S2x16x4096x32 .f32 :=
  addf (firstStage32 n q r) (secondStage32 (subf x (firstStage32 n q r)) s)

/-- The second group's round trip. -/
def roundTrip32 (l : T F S4 .f32) (x : T F S2x16x4096x32 .f32) (r s : T F S32x32 .f32) : T F S2x16x4096x32 .f32 :=
  bothStages32 x (rowNorm32 0x322BCC77#32 x) (quantise32 l (project32 x (rowNorm32 0x322BCC77#32 x) r)) r s

/-- The first group's levels. -/
def levels96 : T F S2 .f32 := fun i => FloatOps.ofBits .f32 (lit0 (S2.rowMajor i))

/-- The second group's levels. -/
def levels32 : T F S4 .f32 := fun i => FloatOps.ofBits .f32 (lit1 (S4.rowMajor i))

/-- The order of the channels: those of lesser norm first, each class by index. -/
def perm (x : T F S2x16x4096x128 .f32) : T F S2x16x128 .i32 := orderOf (isAmong (outIdx (channelNorms x)))

/-- The reference's result. -/
def result (x : T F S2x16x4096x128 .f32) (rr sr : T F S96x96 .f32) (ro so : T F S32x32 .f32) : T F S2x16x4096x128 .f32 :=
  takeChannels
    (concatGroups (roundTrip96 levels96 (firstGroup (takeChannels x (perm x))) rr sr)
      (roundTrip32 levels32 (secondGroup (takeChannels x (perm x))) ro so))
    (orderOf (perm x))

/-! What each stage leaves. -/

variable (V : Valuation τ sig (Elt F))

set_option maxHeartbeats 4000000 in
theorem maskOps_main_cst : after maskOps V (no_index (Proc.devRef .tc main_cst)) = levels96 := by
  simp only [maskOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem maskOps_main_cst_0 : after maskOps V (no_index (Proc.devRef .tc main_cst_0)) = levels32 := by
  simp only [maskOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem maskOps_main_v10 : after maskOps V (no_index (Proc.devRef .tc main_v10)) = perm (V (Proc.devRef .tc main_arg0)) := by
  simp only [maskOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem gatherOps_main_v14 : after gatherOps V (no_index (Proc.devRef .tc main_v14)) = firstGroup (takeChannels (V (Proc.devRef .tc main_arg0)) (V (Proc.devRef .tc main_v10))) := by
  simp only [gatherOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem gatherOps_main_v15 : after gatherOps V (no_index (Proc.devRef .tc main_v15)) = secondGroup (takeChannels (V (Proc.devRef .tc main_arg0)) (V (Proc.devRef .tc main_v10))) := by
  simp only [gatherOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem yRegOps_main_v17 : after yRegOps V (no_index (Proc.devRef .tc main_v17)) = rowNorm96 0x322BCC77#32 (V (Proc.devRef .tc main_v14)) := by
  simp only [yRegOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem yRegOps_main_v21 : after yRegOps V (no_index (Proc.devRef .tc main_v21)) = project96 (V (Proc.devRef .tc main_v14)) (rowNorm96 0x322BCC77#32 (V (Proc.devRef .tc main_v14))) (V (Proc.devRef .tc main_arg1)) := by
  simp only [yRegOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem qRegOps_main_v29 : after qRegOps V (no_index (Proc.devRef .tc main_v29)) = quantise96 (V (Proc.devRef .tc main_cst)) (V (Proc.devRef .tc main_v21)) := by
  simp only [qRegOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem restRegOps_main_v50 : after (restRegOpsA ++ restRegOpsB) V (no_index (Proc.devRef .tc main_v50)) = bothStages96 (V (Proc.devRef .tc main_v14)) (V (Proc.devRef .tc main_v17)) (V (Proc.devRef .tc main_v29)) (V (Proc.devRef .tc main_arg1)) (V (Proc.devRef .tc main_arg2)) := by
  simp only [restRegOpsA, restRegOpsB, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem yOutOps_main_v52 : after yOutOps V (no_index (Proc.devRef .tc main_v52)) = rowNorm32 0x322BCC77#32 (V (Proc.devRef .tc main_v15)) := by
  simp only [yOutOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem yOutOps_main_v56 : after yOutOps V (no_index (Proc.devRef .tc main_v56)) = project32 (V (Proc.devRef .tc main_v15)) (rowNorm32 0x322BCC77#32 (V (Proc.devRef .tc main_v15))) (V (Proc.devRef .tc main_arg3)) := by
  simp only [yOutOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem qOutOps_main_v64 : after qOutOps V (no_index (Proc.devRef .tc main_v64)) = quantise32 (V (Proc.devRef .tc main_cst_0)) (V (Proc.devRef .tc main_v56)) := by
  simp only [qOutOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem restOutOps_main_v85 : after restOutOps V (no_index (Proc.devRef .tc main_v85)) = bothStages32 (V (Proc.devRef .tc main_v15)) (V (Proc.devRef .tc main_v52)) (V (Proc.devRef .tc main_v64)) (V (Proc.devRef .tc main_arg3)) (V (Proc.devRef .tc main_arg4)) := by
  simp only [restOutOps, List.cons_append, List.nil_append, TRef.binary, TRef.nullary, TRef.ternary, TRef.quaternary, TRef.unary, TRef.reshape, TRef.toBuf,
    TRef.ofBuf, cast_eq]
  after_results_simp
  all_goals rfl

set_option maxHeartbeats 4000000 in
theorem backOps_main_v90 : after backOps V (no_index (Proc.devRef .tc main_v90)) = takeChannels (concatGroups (V (Proc.devRef .tc main_v50)) (V (Proc.devRef .tc main_v85))) (orderOf (V (Proc.devRef .tc main_v10))) := by
  simp only [backOps, List.cons_append, List.nil_append, TRef.binary, TRef.nullary, TRef.ternary, TRef.quaternary, TRef.unary, TRef.reshape, TRef.toBuf,
    TRef.ofBuf, cast_eq]
  after_results_simp
  all_goals rfl

/-! The stages in order. -/

/-- What a buffer holds after the stages up to and including the last list named. -/
def at1 : Valuation τ sig (Elt F) := after maskOps V
def at2 : Valuation τ sig (Elt F) := after gatherOps (at1 V)
def at3 : Valuation τ sig (Elt F) := after yRegOps (at2 V)
def at4 : Valuation τ sig (Elt F) := after qRegOps (at3 V)
def at5 : Valuation τ sig (Elt F) := after (restRegOpsA ++ restRegOpsB) (at4 V)
def at6 : Valuation τ sig (Elt F) := after yOutOps (at5 V)
def at7 : Valuation τ sig (Elt F) := after qOutOps (at6 V)
def at8 : Valuation τ sig (Elt F) := after restOutOps (at7 V)
def at9 : Valuation τ sig (Elt F) := after backOps (at8 V)

theorem after_ops : after ops V = at9 V := by
  simp only [ops, ops1, ops2, after_append, at1, at2, at3, at4, at5, at6, at7, at8, at9]

variable {V} {r : Ref sig .tc}

theorem at1_keep (h : r ∉ maskOpsW) : at1 V (Proc.devRef .tc r) = V (Proc.devRef .tc r) :=
  after_of_writes_sub _ _ maskOps_writes h
theorem at2_keep (h : r ∉ gatherOpsW) : at2 V (Proc.devRef .tc r) = at1 V (Proc.devRef .tc r) :=
  after_of_writes_sub _ _ gatherOps_writes h
theorem at3_keep (h : r ∉ yRegOpsW) : at3 V (Proc.devRef .tc r) = at2 V (Proc.devRef .tc r) :=
  after_of_writes_sub _ _ yRegOps_writes h
theorem at4_keep (h : r ∉ qRegOpsW) : at4 V (Proc.devRef .tc r) = at3 V (Proc.devRef .tc r) :=
  after_of_writes_sub _ _ qRegOps_writes h
theorem at5_keep (h : r ∉ restRegOpsAW) (h' : r ∉ restRegOpsBW) :
    at5 V (Proc.devRef .tc r) = at4 V (Proc.devRef .tc r) := by
  rw [at5, after_append]
  exact (after_of_writes_sub _ _ restRegOpsB_writes h').trans (after_of_writes_sub _ _ restRegOpsA_writes h)
theorem at6_keep (h : r ∉ yOutOpsW) : at6 V (Proc.devRef .tc r) = at5 V (Proc.devRef .tc r) :=
  after_of_writes_sub _ _ yOutOps_writes h
theorem at7_keep (h : r ∉ qOutOpsW) : at7 V (Proc.devRef .tc r) = at6 V (Proc.devRef .tc r) :=
  after_of_writes_sub _ _ qOutOps_writes h
theorem at8_keep (h : r ∉ restOutOpsW) : at8 V (Proc.devRef .tc r) = at7 V (Proc.devRef .tc r) :=
  after_of_writes_sub _ _ restOutOps_writes h
theorem at9_keep (h : r ∉ backOpsW) : at9 V (Proc.devRef .tc r) = at8 V (Proc.devRef .tc r) :=
  after_of_writes_sub _ _ backOps_writes h

/-- A buffer no operation writes is as it was. -/
theorem at9_arg (h1 : r ∉ maskOpsW) (h2 : r ∉ gatherOpsW) (h3 : r ∉ yRegOpsW) (h4 : r ∉ qRegOpsW) (h5 : r ∉ restRegOpsAW)
    (h5' : r ∉ restRegOpsBW) (h6 : r ∉ yOutOpsW) (h7 : r ∉ qOutOpsW) (h8 : r ∉ restOutOpsW) (h9 : r ∉ backOpsW) :
    at9 V (Proc.devRef .tc r) = V (Proc.devRef .tc r) := by
  rw [at9_keep h9, at8_keep h8, at7_keep h7, at6_keep h6, at5_keep h5 h5', at4_keep h4, at3_keep h3, at2_keep h2,
    at1_keep h1]

theorem at1_v10 : at1 V (Proc.devRef .tc main_v10) = perm (V (Proc.devRef .tc main_arg0)) := maskOps_main_v10 _
theorem at1_cst : at1 V (Proc.devRef .tc main_cst) = levels96 := maskOps_main_cst _
theorem at1_cst_0 : at1 V (Proc.devRef .tc main_cst_0) = levels32 := maskOps_main_cst_0 _
theorem at3_v17 : at3 V (Proc.devRef .tc main_v17) = rowNorm96 0x322BCC77#32 (at2 V (Proc.devRef .tc main_v14)) :=
  yRegOps_main_v17 _
theorem at3_v21 : at3 V (Proc.devRef .tc main_v21) = project96 (at2 V (Proc.devRef .tc main_v14))
    (rowNorm96 0x322BCC77#32 (at2 V (Proc.devRef .tc main_v14))) (at2 V (Proc.devRef .tc main_arg1)) :=
  yRegOps_main_v21 _
theorem at4_v29 : at4 V (Proc.devRef .tc main_v29)
    = quantise96 (at3 V (Proc.devRef .tc main_cst)) (at3 V (Proc.devRef .tc main_v21)) := qRegOps_main_v29 _
theorem at6_v52 : at6 V (Proc.devRef .tc main_v52) = rowNorm32 0x322BCC77#32 (at5 V (Proc.devRef .tc main_v15)) :=
  yOutOps_main_v52 _
theorem at6_v56 : at6 V (Proc.devRef .tc main_v56) = project32 (at5 V (Proc.devRef .tc main_v15))
    (rowNorm32 0x322BCC77#32 (at5 V (Proc.devRef .tc main_v15))) (at5 V (Proc.devRef .tc main_arg3)) :=
  yOutOps_main_v56 _
theorem at7_v64 : at7 V (Proc.devRef .tc main_v64)
    = quantise32 (at6 V (Proc.devRef .tc main_cst_0)) (at6 V (Proc.devRef .tc main_v56)) := qOutOps_main_v64 _

/-- The first group as the round trip reads it. -/
theorem at2_v14 : at2 V (Proc.devRef .tc main_v14)
    = firstGroup (takeChannels (V (Proc.devRef .tc main_arg0)) (perm (V (Proc.devRef .tc main_arg0)))) := by
  rw [at2, gatherOps_main_v14, at1_keep (by decide), at1_v10]

/-- The second group as the round trip reads it. -/
theorem at2_v15 : at2 V (Proc.devRef .tc main_v15)
    = secondGroup (takeChannels (V (Proc.devRef .tc main_arg0)) (perm (V (Proc.devRef .tc main_arg0)))) := by
  rw [at2, gatherOps_main_v15, at1_keep (by decide), at1_v10]

theorem at5_v50 : at5 V (Proc.devRef .tc main_v50)
    = roundTrip96 levels96 (at2 V (Proc.devRef .tc main_v14)) (V (Proc.devRef .tc main_arg1))
        (V (Proc.devRef .tc main_arg2)) := by
  rw [at5, restRegOps_main_v50, at4_v29, at4_keep (r := main_v14) (by decide), at3_keep (r := main_v14) (by decide),
    at4_keep (r := main_v17) (by decide), at3_v17, at3_v21,
    at3_keep (r := main_cst) (by decide), at2_keep (r := main_cst) (by decide), at1_cst,
    at4_keep (r := main_arg1) (by decide), at4_keep (r := main_arg2) (by decide), at3_keep (r := main_arg1) (by decide),
    at3_keep (r := main_arg2) (by decide), at2_keep (r := main_arg1) (by decide), at2_keep (r := main_arg2) (by decide),
    at1_keep (r := main_arg1) (by decide), at1_keep (r := main_arg2) (by decide)]
  rfl

/-- The second group's input is still there after the first group's stages. -/
theorem at5_v15 : at5 V (Proc.devRef .tc main_v15) = at2 V (Proc.devRef .tc main_v15) := by
  rw [at5_keep (by decide) (by decide), at4_keep (by decide), at3_keep (by decide)]

/-- The last two arguments are still there after the first group's stages. -/
theorem at5_arg3 : at5 V (Proc.devRef .tc main_arg3) = V (Proc.devRef .tc main_arg3) := by
  rw [at5_keep (by decide) (by decide), at4_keep (by decide), at3_keep (by decide), at2_keep (by decide),
    at1_keep (by decide)]
theorem at5_arg4 : at5 V (Proc.devRef .tc main_arg4) = V (Proc.devRef .tc main_arg4) := by
  rw [at5_keep (by decide) (by decide), at4_keep (by decide), at3_keep (by decide), at2_keep (by decide),
    at1_keep (by decide)]
theorem at5_cst_0 : at5 V (Proc.devRef .tc main_cst_0) = levels32 := by
  rw [at5_keep (by decide) (by decide), at4_keep (by decide), at3_keep (by decide), at2_keep (by decide), at1_cst_0]

theorem at8_v85 : at8 V (Proc.devRef .tc main_v85)
    = roundTrip32 levels32 (at2 V (Proc.devRef .tc main_v15)) (V (Proc.devRef .tc main_arg3))
        (V (Proc.devRef .tc main_arg4)) := by
  rw [at8, restOutOps_main_v85, at7_v64, at7_keep (r := main_v15) (by decide), at6_keep (r := main_v15) (by decide),
    at7_keep (r := main_v52) (by decide), at6_v52, at6_v56, at6_keep (r := main_cst_0) (by decide), at5_cst_0,
    at7_keep (r := main_arg3) (by decide), at7_keep (r := main_arg4) (by decide),
    at6_keep (r := main_arg3) (by decide), at6_keep (r := main_arg4) (by decide), at5_arg3, at5_arg4, at5_v15]
  rfl

/-- The last buffer holds the result. -/
theorem at9_v90 : at9 V (Proc.devRef .tc main_v90)
    = result (V (Proc.devRef .tc main_arg0)) (V (Proc.devRef .tc main_arg1)) (V (Proc.devRef .tc main_arg2))
        (V (Proc.devRef .tc main_arg3)) (V (Proc.devRef .tc main_arg4)) := by
  rw [at9, backOps_main_v90, at8_v85, at8_keep (r := main_v50) (by decide), at7_keep (r := main_v50) (by decide),
    at6_keep (r := main_v50) (by decide), at5_v50, at2_v14, at2_v15, at8_keep (r := main_v10) (by decide),
    at7_keep (r := main_v10) (by decide), at6_keep (r := main_v10) (by decide),
    at5_keep (r := main_v10) (by decide) (by decide), at4_keep (r := main_v10) (by decide),
    at3_keep (r := main_v10) (by decide), at2_keep (r := main_v10) (by decide), at1_v10]
  rfl

/-- Every weakly fair execution of the reference ends with the result in its result buffer, the arguments as they were
    before. -/
theorem run (m : (ℓ : Loc nD τ sig) → Buf (Elt F) ℓ) (ρ : Dev nD → PrngReg) :
    θ_run defs (onTc (τ := τ) (main (F := F))) ⟨m, fun _ => 0, ρ⟩ fun s => ∀ c : Dev nD,
      s.2.mem ((c.tc : Thread nD τ).loc main_v90)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4) :=
  (θ_run defs _ _).mono
    (fun _ h c =>
      have e (r : Ref sig .tc) := (h c r).trans (congrFun (after_ops (launchContents m c)) (Proc.devRef .tc r))
      ⟨(e main_v90).trans at9_v90,
        (e main_arg0).trans (at9_arg (by decide) (by decide) (by decide) (by decide) (by decide) (by decide) (by decide)
          (by decide) (by decide) (by decide)),
        (e main_arg1).trans (at9_arg (by decide) (by decide) (by decide) (by decide) (by decide) (by decide) (by decide)
          (by decide) (by decide) (by decide)),
        (e main_arg2).trans (at9_arg (by decide) (by decide) (by decide) (by decide) (by decide) (by decide) (by decide)
          (by decide) (by decide) (by decide)),
        (e main_arg3).trans (at9_arg (by decide) (by decide) (by decide) (by decide) (by decide) (by decide) (by decide)
          (by decide) (by decide) (by decide)),
        (e main_arg4).trans (at9_arg (by decide) (by decide) (by decide) (by decide) (by decide) (by decide) (by decide)
          (by decide) (by decide) (by decide))⟩)
    (run_seq scopedRefs_eq scopedSems_eq defs main (fun _ => ops) main_eq (fun _ => ops_sub) m ρ fun _ => ops_fresh)

end Cert.RefRun

end
-- ==== Proof.Row.lean ====
/-
  One row's round trip over the extended reals: the row divided by its norm, rotated, quantised, rotated back and
  scaled, then the residual's signs projected, projected back and scaled. The kernel runs both groups of channels
  through one pair of 128 × 128 matrices, each zero outside its two diagonal blocks; here its row is shown to be the
  two groups' rows side by side.
-/
module

public import Idealize.ShloMosaic.Lib.Pointwise

@[expose] public section

noncomputable section

namespace Cert.Row

open Idealize.ShloMosaic

variable {K : ℕ}

/-- A row's norm, bounded below by the constant of word `w`. -/
def norm (w : BitVec 32) (x : Fin K → EReal) : EReal := max (Ideal.sqrt (∑ i, x i * x i)) (Ideal.ofBits .f32 w)

/-- The row divided by `n`, times a matrix transposed. -/
def proj (x : Fin K → EReal) (n : EReal) (R : Fin K → Fin K → EReal) (j : Fin K) : EReal :=
  ∑ i, Ideal.div (x i) n * R j i

/-- The quantised row times a matrix, scaled by `n`. -/
def first (n : EReal) (q : Fin K → EReal) (R : Fin K → Fin K → EReal) (j : Fin K) : EReal := (∑ i, q i * R i j) * n

/-- One for a number that is at least zero, minus one otherwise. -/
def sgn (p : EReal) : EReal := if 0 ≤ p then 1 else Ideal.ofBits .f32 0xBF800000#32

/-- The residual's signs, projected and projected back, scaled. -/
def second (κ : EReal) (e : Fin K → EReal) (S : Fin K → Fin K → EReal) (j : Fin K) : EReal :=
  (κ * ∑ i, sgn (proj e (norm 0x2EDBE6FF#32 e) S i) * S i j) * norm 0x2EDBE6FF#32 e

/-- Both stages of a row whose rotated unit row is quantised to `q`. -/
def both (κ : EReal) (x : Fin K → EReal) (n : EReal) (q : Fin K → EReal) (R S : Fin K → Fin K → EReal) (j : Fin K) : EReal :=
  first n q R j + second κ (fun k => x k - first n q R k) S j

/-- A row's round trip, the quantiser a parameter. -/
def trip (κ : EReal) (Q : EReal → EReal) (x : Fin K → EReal) (R S : Fin K → Fin K → EReal) (j : Fin K) : EReal :=
  both κ x (norm 0x322BCC77#32 x) (fun k => Q (proj x (norm 0x322BCC77#32 x) R k)) R S j

theorem trip_congr {κ : EReal} {Q Q' : EReal → EReal} {x : Fin K → EReal} {R S : Fin K → Fin K → EReal} {j : Fin K}
    (h : ∀ k, Q (proj x (norm 0x322BCC77#32 x) R k) = Q' (proj x (norm 0x322BCC77#32 x) R k)) :
    trip κ Q x R S j = trip κ Q' x R S j := by
  unfold trip
  rw [funext h]

/-! ## The kernel's row -/

/-- Channel `i` of the first group. -/
def reg (i : Fin 96) : Fin 128 := ⟨i, by omega⟩

/-- Channel `i` of the second group. -/
def out (i : Fin 32) : Fin 128 := ⟨96 + i, by omega⟩

theorem eq_reg {t : Fin 128} (h : (t : ℕ) < 96) : t = reg ⟨t, h⟩ := rfl

theorem eq_out {t : Fin 128} (h : ¬ (t : ℕ) < 96) : t = out ⟨t - 96, by omega⟩ := Fin.ext (by simp only [out]; omega)

theorem sum_groups (f : Fin 128 → EReal) : ∑ t, f t = ∑ i, f (reg i) + ∑ i, f (out i) :=
  Fin.sum_univ_add (a := 96) (b := 32) f

variable (g : Fin 128 → EReal) (A B C : Fin 128 → Fin 128 → EReal)

/-- The group's norm, at each channel. -/
def kNorm (w : BitVec 32) (t : Fin 128) : EReal :=
  if (t : ℕ) < 96 then norm w fun i => g (reg i) else norm w fun i => g (out i)

/-- The row divided by the norms, times a matrix. -/
def kProj (t : Fin 128) : EReal := ∑ i, Ideal.div (g i) (kNorm g 0x322BCC77#32 i) * B i t

/-- Each group's quantiser. -/
def kQuant (Q₁ Q₂ : EReal → EReal) (t : Fin 128) : EReal := if (t : ℕ) < 96 then Q₁ (kProj g B t) else Q₂ (kProj g B t)

/-- The first stage. -/
def kFirst (Q₁ Q₂ : EReal → EReal) (t : Fin 128) : EReal := (∑ i, kQuant g B Q₁ Q₂ i * A i t) * kNorm g 0x322BCC77#32 t

/-- The residual. -/
def kResid (Q₁ Q₂ : EReal → EReal) (t : Fin 128) : EReal := g t - kFirst g A B Q₁ Q₂ t

/-- The residual divided by its norms, times a matrix transposed. -/
def kProj2 (e : Fin 128 → EReal) (t : Fin 128) : EReal := ∑ i, Ideal.div (e i) (kNorm e 0x2EDBE6FF#32 i) * C t i

/-- The second stage. -/
def kSecond (κ₁ κ₂ : EReal) (e : Fin 128 → EReal) (t : Fin 128) : EReal :=
  ((if (t : ℕ) < 96 then κ₁ else κ₂) * ∑ i, sgn (kProj2 C e i) * C i t) * kNorm e 0x2EDBE6FF#32 t

/-- The kernel's row. -/
def kRow (κ₁ κ₂ : EReal) (Q₁ Q₂ : EReal → EReal) (t : Fin 128) : EReal :=
  kSecond C κ₁ κ₂ (kResid g A B Q₁ Q₂) t + kFirst g A B Q₁ Q₂ t

theorem kNorm_reg (w : BitVec 32) (i : Fin 96) : kNorm g w (reg i) = norm w fun i => g (reg i) := if_pos i.2

theorem kNorm_out (w : BitVec 32) (i : Fin 32) : kNorm g w (out i) = norm w fun i => g (out i) :=
  if_neg (by simp only [out]; omega)

/-- A matrix with the given diagonal blocks and zeros elsewhere. -/
structure Blocks (M : Fin 128 → Fin 128 → EReal) (R : Fin 96 → Fin 96 → EReal) (O : Fin 32 → Fin 32 → EReal) : Prop where
  reg_reg : ∀ i j, M (reg i) (reg j) = R i j
  out_out : ∀ i j, M (out i) (out j) = O i j
  reg_out : ∀ i j, M (reg i) (out j) = 0
  out_reg : ∀ i j, M (out i) (reg j) = 0

theorem Blocks.swap {M : Fin 128 → Fin 128 → EReal} {R : Fin 96 → Fin 96 → EReal} {O : Fin 32 → Fin 32 → EReal}
    (h : Blocks M R O) : Blocks (fun i j => M j i) (fun i j => R j i) fun i j => O j i :=
  ⟨fun i j => h.reg_reg j i, fun i j => h.out_out j i, fun i j => h.out_reg j i, fun i j => h.reg_out j i⟩

variable {g A B C} {R S : Fin 96 → Fin 96 → EReal} {R' S' : Fin 32 → Fin 32 → EReal}
variable (hA : Blocks A R R') (hB : Blocks B (fun i j => R j i) fun i j => R' j i) (hC : Blocks C S S')
variable {Q₁ Q₂ : EReal → EReal} {κ₁ κ₂ : EReal}

include hA hB hC

/-- The kernel's row at a channel of the first group is that group's row. -/
theorem kRow_reg (j : Fin 96) :
    kRow g A B C κ₁ κ₂ Q₁ Q₂ (reg j) = trip κ₁ Q₁ (fun i => g (reg i)) R S j := by
  have h1 : ∀ k : Fin 96, kProj g B (reg k) = proj (fun i => g (reg i)) (norm 0x322BCC77#32 fun i => g (reg i)) R k := fun k => by
    simp only [kProj, sum_groups, kNorm_reg, hB.reg_reg, hB.out_reg, mul_zero, Finset.sum_const_zero, add_zero, proj]
  have h2 : ∀ k : Fin 96, kQuant g B Q₁ Q₂ (reg k)
      = Q₁ (proj (fun i => g (reg i)) (norm 0x322BCC77#32 fun i => g (reg i)) R k) := fun k => by
    rw [← h1 k]; exact if_pos k.2
  have h3 : ∀ k : Fin 96, kFirst g A B Q₁ Q₂ (reg k) = first (norm 0x322BCC77#32 fun i => g (reg i))
      (fun k => Q₁ (proj (fun i => g (reg i)) (norm 0x322BCC77#32 fun i => g (reg i)) R k)) R k := fun k => by
    simp only [kFirst, sum_groups, kNorm_reg, h2, hA.reg_reg, hA.out_reg, mul_zero, Finset.sum_const_zero, add_zero, first]
  have h4 : ∀ (e : Fin 128 → EReal) (k : Fin 96), kProj2 C e (reg k)
      = proj (fun i => e (reg i)) (norm 0x2EDBE6FF#32 fun i => e (reg i)) S k := fun e k => by
    simp only [kProj2, sum_groups, kNorm_reg, hC.reg_reg, hC.reg_out, mul_zero, Finset.sum_const_zero, add_zero, proj]
  have h5 : ∀ (e : Fin 128 → EReal), kSecond C κ₁ κ₂ e (reg j) = second κ₁ (fun i => e (reg i)) S j := fun e => by
    simp only [kSecond, sum_groups, kNorm_reg, h4, hC.reg_reg, hC.out_reg, mul_zero, Finset.sum_const_zero, add_zero, second]
    rw [if_pos (show ((reg j : Fin 128) : ℕ) < 96 from j.2)]
  rw [kRow, h5, h3, add_comm]
  simp only [kResid, h3, trip, both]

/-- The kernel's row at a channel of the second group is that group's row. -/
theorem kRow_out (j : Fin 32) :
    kRow g A B C κ₁ κ₂ Q₁ Q₂ (out j) = trip κ₂ Q₂ (fun i => g (out i)) R' S' j := by
  have hlt : ∀ k : Fin 32, ¬ ((out k : Fin 128) : ℕ) < 96 := fun k => by simp only [out]; omega
  have h1 : ∀ k : Fin 32, kProj g B (out k) = proj (fun i => g (out i)) (norm 0x322BCC77#32 fun i => g (out i)) R' k := fun k => by
    simp only [kProj, sum_groups, kNorm_out, hB.out_out, hB.reg_out, mul_zero, Finset.sum_const_zero, zero_add, proj]
  have h2 : ∀ k : Fin 32, kQuant g B Q₁ Q₂ (out k)
      = Q₂ (proj (fun i => g (out i)) (norm 0x322BCC77#32 fun i => g (out i)) R' k) := fun k => by
    rw [← h1 k]; exact if_neg (hlt k)
  have h3 : ∀ k : Fin 32, kFirst g A B Q₁ Q₂ (out k) = first (norm 0x322BCC77#32 fun i => g (out i))
      (fun k => Q₂ (proj (fun i => g (out i)) (norm 0x322BCC77#32 fun i => g (out i)) R' k)) R' k := fun k => by
    simp only [kFirst, sum_groups, kNorm_out, h2, hA.out_out, hA.reg_out, mul_zero, Finset.sum_const_zero, zero_add, first]
  have h4 : ∀ (e : Fin 128 → EReal) (k : Fin 32), kProj2 C e (out k)
      = proj (fun i => e (out i)) (norm 0x2EDBE6FF#32 fun i => e (out i)) S' k := fun e k => by
    simp only [kProj2, sum_groups, kNorm_out, hC.out_out, hC.out_reg, mul_zero, Finset.sum_const_zero, zero_add, proj]
  have h5 : ∀ (e : Fin 128 → EReal), kSecond C κ₁ κ₂ e (out j) = second κ₂ (fun i => e (out i)) S' j := fun e => by
    simp only [kSecond, sum_groups, kNorm_out, h4, hC.out_out, hC.reg_out, mul_zero, Finset.sum_const_zero, zero_add, second]
    rw [if_neg (hlt j)]
  rw [kRow, h5, h3, add_comm]
  simp only [kResid, h3, trip, both]

end Cert.Row

end
-- ==== Proof.Quant.lean ====
/-
  The two quantisers. Each picks the nearest of a few levels; a number is nearest to the level on its side of the
  midpoint, the lower level at the midpoint itself. The rotated unit row is a row of real numbers when the rotation is.
-/
module

public import proofs.«01_k».proof.Proof.Row

@[expose] public section

noncomputable section

namespace Cert.Row

open Idealize.ShloMosaic

/-- The first group's quantiser by its threshold. -/
def quantReg (y : EReal) : EReal := if y ≤ 0 then Ideal.ofBits .f32 0xBF4C422A#32 else Ideal.ofBits .f32 0x3F4C422A#32

/-- The second group's quantiser by its thresholds. -/
def quantOut (y : EReal) : EReal :=
  if y ≤ Ideal.ofBits .f32 0xBF7B4A0F#32 then Ideal.ofBits .f32 0xBFC1555D#32
  else if y ≤ 0 then Ideal.ofBits .f32 0xBEE7D2C8#32
  else if y ≤ Ideal.ofBits .f32 0x3F7B4A0F#32 then Ideal.ofBits .f32 0x3EE7D2C8#32
  else Ideal.ofBits .f32 0x3FC1555D#32

theorem w_L1 : Ideal.ofBits .f32 0x3F4C422A#32 = ((6693141 / 8388608 : ℝ) : EReal) := by
  simp [Ideal.ofBits, Ideal.ieee, -EReal.coe_mul]; norm_num
theorem w_L1n : Ideal.ofBits .f32 0xBF4C422A#32 = ((-(6693141 / 8388608) : ℝ) : EReal) := by
  simp [Ideal.ofBits, Ideal.ieee, -EReal.coe_mul, -EReal.coe_neg]; norm_num
theorem w_A : Ideal.ofBits .f32 0x3EE7D2C8#32 = ((1899097 / 4194304 : ℝ) : EReal) := by
  simp [Ideal.ofBits, Ideal.ieee, -EReal.coe_mul]; norm_num
theorem w_An : Ideal.ofBits .f32 0xBEE7D2C8#32 = ((-(1899097 / 4194304) : ℝ) : EReal) := by
  simp [Ideal.ofBits, Ideal.ieee, -EReal.coe_mul, -EReal.coe_neg]; norm_num
theorem w_B : Ideal.ofBits .f32 0x3FC1555D#32 = ((12670301 / 8388608 : ℝ) : EReal) := by
  simp [Ideal.ofBits, Ideal.ieee, -EReal.coe_mul]; norm_num
theorem w_Bn : Ideal.ofBits .f32 0xBFC1555D#32 = ((-(12670301 / 8388608) : ℝ) : EReal) := by
  simp [Ideal.ofBits, Ideal.ieee, -EReal.coe_mul, -EReal.coe_neg]; norm_num
theorem w_M : Ideal.ofBits .f32 0x3F7B4A0F#32 = ((16468495 / 16777216 : ℝ) : EReal) := by
  simp [Ideal.ofBits, Ideal.ieee, -EReal.coe_mul]; norm_num
theorem w_Mn : Ideal.ofBits .f32 0xBF7B4A0F#32 = ((-(16468495 / 16777216) : ℝ) : EReal) := by
  simp [Ideal.ofBits, Ideal.ieee, -EReal.coe_mul, -EReal.coe_neg]; norm_num
theorem w_inf : Ideal.ofBits .f32 0x7F800000#32 = ⊤ := by simp [Ideal.ofBits, Ideal.ieee]
theorem w_eps : Ideal.ofBits .f32 0x322BCC77#32 = ((11258999 / 1125899906842624 : ℝ) : EReal) := by
  simp [Ideal.ofBits, Ideal.ieee, -EReal.coe_mul]; norm_num

/-- The distance of a number from a level. -/
def dist (y l : EReal) : EReal := max (y - l) (-(y - l))

theorem dist_coe (y l : ℝ) : dist y l = ((|y - l| : ℝ) : EReal) := by
  rw [dist, ← EReal.coe_sub, ← EReal.coe_neg, ← EReal.coe_strictMono.monotone.map_max]; rfl

/-- Of two levels the lesser is at most as far exactly for numbers up to the midpoint. -/
theorem dist_le_dist (y : ℝ) {a b : ℝ} (h : a < b) : dist y a ≤ dist y b ↔ y ≤ (a + b) / 2 := by
  rw [dist_coe, dist_coe, EReal.coe_le_coe_iff, abs_le_abs_iff_sq]
  constructor <;> intro g <;> nlinarith
where
  abs_le_abs_iff_sq {u v : ℝ} : |u| ≤ |v| ↔ u ^ 2 ≤ v ^ 2 := sq_le_sq.symm

/-- The better of two candidates, each a distance and an index: the first where it is at most as far. -/
def better (a b : EReal × BitVec 32) : EReal × BitVec 32 := if a.1 ≤ b.1 then a else b

/-- The nearer of the first group's two levels is the one the threshold names. -/
theorem nearest_reg (y : ℝ) {L : BitVec 32 → EReal} (h0 : L 0#32 = Ideal.ofBits .f32 0xBF4C422A#32)
    (h1 : L 1#32 = Ideal.ofBits .f32 0x3F4C422A#32) :
    L (better (dist y (Ideal.ofBits .f32 0xBF4C422A#32), 0#32) (dist y (Ideal.ofBits .f32 0x3F4C422A#32), 1#32)).2
      = quantReg y := by
  have e : dist y (Ideal.ofBits .f32 0xBF4C422A#32) ≤ dist y (Ideal.ofBits .f32 0x3F4C422A#32) ↔ (y : EReal) ≤ 0 := by
    rw [w_L1, w_L1n, dist_le_dist y (by norm_num), ← EReal.coe_zero, EReal.coe_le_coe_iff]; norm_num
  unfold better quantReg
  by_cases h : (y : EReal) ≤ 0
  · rw [if_pos h, if_pos (e.mpr h)]; exact h0
  · rw [if_neg h, if_neg fun g => h (e.mp g)]; exact h1

/-- The nearest of the second group's four levels is the one the thresholds name. -/
theorem nearest_out (y : ℝ) {L : BitVec 32 → EReal} (h0 : L 0#32 = Ideal.ofBits .f32 0xBFC1555D#32)
    (h1 : L 1#32 = Ideal.ofBits .f32 0xBEE7D2C8#32) (h2 : L 2#32 = Ideal.ofBits .f32 0x3EE7D2C8#32)
    (h3 : L 3#32 = Ideal.ofBits .f32 0x3FC1555D#32) :
    L (better (better (better (dist y (Ideal.ofBits .f32 0xBFC1555D#32), 0#32) (dist y (Ideal.ofBits .f32 0xBEE7D2C8#32), 1#32))
      (dist y (Ideal.ofBits .f32 0x3EE7D2C8#32), 2#32)) (dist y (Ideal.ofBits .f32 0x3FC1555D#32), 3#32)).2
      = quantOut y := by
  have e01 : dist y (Ideal.ofBits .f32 0xBFC1555D#32) ≤ dist y (Ideal.ofBits .f32 0xBEE7D2C8#32) ↔ y ≤ -(16468495 / 16777216) := by
    rw [w_Bn, w_An, dist_le_dist y (by norm_num)]; norm_num
  have e02 : dist y (Ideal.ofBits .f32 0xBFC1555D#32) ≤ dist y (Ideal.ofBits .f32 0x3EE7D2C8#32) ↔ y ≤ -(8872107 / 16777216) := by
    rw [w_Bn, w_A, dist_le_dist y (by norm_num)]; norm_num
  have e03 : dist y (Ideal.ofBits .f32 0xBFC1555D#32) ≤ dist y (Ideal.ofBits .f32 0x3FC1555D#32) ↔ y ≤ 0 := by
    rw [w_Bn, w_B, dist_le_dist y (by norm_num)]; norm_num
  have e12 : dist y (Ideal.ofBits .f32 0xBEE7D2C8#32) ≤ dist y (Ideal.ofBits .f32 0x3EE7D2C8#32) ↔ y ≤ 0 := by
    rw [w_An, w_A, dist_le_dist y (by norm_num)]; norm_num
  have e13 : dist y (Ideal.ofBits .f32 0xBEE7D2C8#32) ≤ dist y (Ideal.ofBits .f32 0x3FC1555D#32) ↔ y ≤ 8872107 / 16777216 := by
    rw [w_An, w_B, dist_le_dist y (by norm_num)]; norm_num
  have e23 : dist y (Ideal.ofBits .f32 0x3EE7D2C8#32) ≤ dist y (Ideal.ofBits .f32 0x3FC1555D#32) ↔ y ≤ 16468495 / 16777216 := by
    rw [w_A, w_B, dist_le_dist y (by norm_num)]; norm_num
  have c0 : (y : EReal) ≤ Ideal.ofBits .f32 0xBF7B4A0F#32 ↔ y ≤ -(16468495 / 16777216) := by
    rw [w_Mn, EReal.coe_le_coe_iff]
  have c1 : (y : EReal) ≤ 0 ↔ y ≤ 0 := by rw [← EReal.coe_zero, EReal.coe_le_coe_iff]
  have c2 : (y : EReal) ≤ Ideal.ofBits .f32 0x3F7B4A0F#32 ↔ y ≤ 16468495 / 16777216 := by
    rw [w_M, EReal.coe_le_coe_iff]
  unfold better quantOut
  simp only [c0, c1, c2]
  by_cases g0 : y ≤ -(16468495 / 16777216)
  · rw [if_pos g0, if_pos (e01.mpr g0), if_pos (e02.mpr (by linarith)), if_pos (e03.mpr (by linarith))]
    exact h0
  rw [if_neg g0, if_neg fun h => g0 (e01.mp h)]
  by_cases g1 : y ≤ 0
  · rw [if_pos g1, if_pos (e12.mpr g1), if_pos (e13.mpr (by linarith))]
    exact h1
  rw [if_neg g1, if_neg fun h => g1 (e12.mp h)]
  by_cases g2 : y ≤ 16468495 / 16777216
  · rw [if_pos g2, if_pos (e23.mpr g2)]
    exact h2
  rw [if_neg g2, if_neg fun h => g2 (e23.mp h)]
  exact h3

/-! ## The rotated unit row is real -/

variable {K : ℕ}

theorem mul_self_nonneg' (x : EReal) : 0 ≤ x * x := by
  induction x with
  | bot => simp
  | top => simp
  | coe r => rw [← EReal.coe_mul]; exact_mod_cast mul_self_nonneg r

/-- An entry of a row divided by the row's norm is a real number, whatever the row. -/
theorem div_norm_real (x : Fin K → EReal) (i : Fin K) : ∃ r : ℝ, Ideal.div (x i) (norm 0x322BCC77#32 x) = r := by
  have hpos : (0 : EReal) < norm 0x322BCC77#32 x := by
    refine lt_of_lt_of_le ?_ (le_max_right _ _)
    rw [w_eps]; exact_mod_cast (by norm_num : (0 : ℝ) < 11258999 / 1125899906842624)
  unfold Ideal.div
  rw [if_neg hpos.ne']
  by_cases ht : norm 0x322BCC77#32 x = ⊤
  · exact ⟨0, by rw [ht, EReal.inv_top, mul_zero, EReal.coe_zero]⟩
  have hn : ∃ n : ℝ, norm 0x322BCC77#32 x = n :=
    ⟨_, (EReal.coe_toReal ht (ne_of_gt (lt_trans EReal.bot_lt_zero hpos))).symm⟩
  obtain ⟨n, hn⟩ := hn
  have hs : ∑ k, x k * x k ≠ ⊤ := fun h => ht <| by
    rw [norm, h, Ideal.sqrt_top]; exact max_eq_left le_top
  have hx : x i * x i ≠ ⊤ := fun h => hs <| top_le_iff.mp <| by
    rw [← h]; exact Finset.single_le_sum (f := fun k => x k * x k) (fun k _ => mul_self_nonneg' (x k)) (Finset.mem_univ i)
  have hxi : ∃ r : ℝ, x i = r := by
    generalize x i = z at hx
    induction z with
    | bot => exact absurd (by simp) hx
    | top => exact absurd (by simp) hx
    | coe r => exact ⟨r, rfl⟩
  obtain ⟨r, hr⟩ := hxi
  exact ⟨r * n⁻¹, by rw [hr, hn, ← EReal.coe_inv, ← EReal.coe_mul]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A rotated unit row is real where the rotation is. -/
theorem proj_real (x : Fin K → EReal) (R : Fin K → Fin K → EReal) (hR : ∀ i j, ∃ r : ℝ, R i j = r) (j : Fin K) :
    ∃ r : ℝ, proj x (norm 0x322BCC77#32 x) R j = r := by
  choose u hu using div_norm_real x
  choose v hv using hR
  exact ⟨∑ i, u i * v j i, by
    rw [coe_sum]; exact Finset.sum_congr rfl fun i _ => by rw [hu, hv, EReal.coe_mul]⟩

end Cert.Row

end
-- ==== Proof.RefStages.lean ====
/-
  The reference's stages read at an index: each group's round trip is, row by row, the round trip of that row.
-/
module

public import proofs.«01_k».proof.Proof.RefRun
public import proofs.«01_k».proof.Proof.Quant

@[expose] public section

set_option maxRecDepth 16384

noncomputable section

namespace Cert.RefStages

open Cert.ReferenceIdeal Cert.ReferenceIdeal.Gen Cert.RefRun Idealize.ShloMosaic

/-- One row of an array of rows. -/
abbrev row {K : ℕ} (x : (⟨4, ![2, 16, 4096, K]⟩ : Shape).Idx → EReal) (b : Fin 2) (h : Fin 16) (n : Fin 4096) (i : Fin K) : EReal :=
  x (ix4 b h n i)

/-- A matrix by its two coordinates. -/
abbrev mat {K : ℕ} (r : (⟨2, ![K, K]⟩ : Shape).Idx → EReal) (i j : Fin K) : EReal := r (ix2 i j)

/-- A fold of conjunctions of one term is that term. -/
theorem fold_andi_one (f : Fin 1 → BitVec 1) : Finset.fold IntOp.andi (1#1) f Finset.univ = f 0 := by
  rw [Finset.univ_unique, Finset.fold_singleton]
  show f 0 &&& 1#1 = f 0
  generalize f 0 = v
  revert v; decide

/-- The reducer of the search for the least distance, a candidate of lesser index first. -/
theorem reducer_eq (a b : EReal × BitVec 32) (h : a.2.toInt < b.2.toInt) :
    reducer_argmin_f32_i32 (F := Ideal) a b = Row.better a b := by
  have h2 : IntOp.cmpi .slt a.2 b.2 = 1#1 := by
    show BitVec.ofBool (a.2.slt b.2) = 1#1
    rw [BitVec.slt_iff_toInt_lt.mpr h]; rfl
  unfold reducer_argmin_f32_i32 Row.better
  simp only [Ideal.cmpf_def, Ideal.cmp, h2]
  rcases lt_trichotomy a.1 b.1 with g | g | g
  · rw [if_pos g.le, decide_eq_true g, decide_eq_false (not_not.mpr rfl), decide_eq_false g.ne]; rfl
  · rw [if_pos g.le, decide_eq_false g.not_lt, decide_eq_false (not_not.mpr rfl), decide_eq_true g]
    exact Prod.ext g.symm rfl
  · rw [if_neg g.not_ge, decide_eq_false g.asymm, decide_eq_false (not_not.mpr rfl), decide_eq_false g.ne']; rfl

/-- The reducer from the search's start. -/
theorem reducer_start (d : EReal) : reducer_argmin_f32_i32 (F := Ideal) (⊤, 0#32) (d, 0#32) = (d, 0#32) := by
  have h2 : IntOp.cmpi .slt (0#32) (0#32) = 0#1 := by decide
  unfold reducer_argmin_f32_i32
  simp only [Ideal.cmpf_def, Ideal.cmp, h2]
  rw [decide_eq_false not_top_lt, decide_eq_false (not_not.mpr rfl)]
  generalize BitVec.ofBool (decide (⊤ = d)) = v
  refine Prod.ext rfl ?_
  show Scalar.select _ _ _ = _
  unfold Scalar.select
  split <;> rfl

theorem better_snd (a b : EReal × BitVec 32) : (Row.better a b).2 = a.2 ∨ (Row.better a b).2 = b.2 := by
  unfold Row.better
  split
  · exact .inl rfl
  · exact .inr rfl

theorem lt_toInt {a b : EReal × BitVec 32} (m n : BitVec 32) (ha : a.2 = m) (hb : b.2 = n) (h : m.toInt < n.toInt) :
    a.2.toInt < b.2.toInt := by
  rw [ha, hb]
  exact h

/-- A reduction that carries an index along is the fold of its body over the fiber. -/
theorem arg_fold {s t u : Shape} {axes : List (Fin s.rank)} {β : Type} (f : EReal × β → EReal × β → EReal × β) (x : s.Idx → EReal)
    (y : s.Idx → β) (ix : u.Idx → EReal) (iy : u.Idx → β) (h : s.ReducesTo axes t) (hu : 0 < u.numel) (j : t.Idx) (a : EReal) (b : β)
    (ha : ∀ i, ix i = a) (hb : ∀ i, iy i = b) :
    Host.argReduce (F := Ideal) (φ := .f32) f x y ix iy h hu j = (Host.argReduceFiber x y h j).foldl f (a, b) := by
  rw [Ideal.argReduce_eq_reduce2, Host.reduce2_eq_foldl_fiber, ha, hb]

theorem absf_sub (y l : EReal) : FloatOps.absf (F := Ideal) (φ := .f32) (y - l) = Row.dist y l := rfl

/-! ## The first group -/

theorem rowNorm96_at (w : BitVec 32) (x : T Ideal S2x16x4096x96 .f32) (b : Fin 2) (h : Fin 16) (n : Fin 4096) :
    rowNorm96 w x (ix4 b h n 0) = Row.norm w (row x b h n) := by
  pointwise [rowNorm96]
  exact max_comm _ _

theorem project96_at (x : T Ideal S2x16x4096x96 .f32) (v : T Ideal S2x16x4096x1 .f32) (r : T Ideal S96x96 .f32)
    (b : Fin 2) (h : Fin 16) (n : Fin 4096) (j : Fin 96) :
    project96 x v r (ix4 b h n j) = Row.proj (row x b h n) (v (ix4 b h n 0)) (mat r) j := by
  pointwise [project96, times96, spread96]
  rfl

theorem signs96_at (p : T Ideal S2x16x4096x96 .f32) (b : Fin 2) (h : Fin 16) (n : Fin 4096) (j : Fin 96) :
    signs96 p (ix4 b h n j) = Row.sgn (p (ix4 b h n j)) := by
  unfold signs96
  rw [id]
  pointwise []
  rfl

theorem firstStage96_at (v : T Ideal S2x16x4096x1 .f32) (q : T Ideal S2x16x4096x96 .f32) (r : T Ideal S96x96 .f32)
    (b : Fin 2) (h : Fin 16) (n : Fin 4096) (j : Fin 96) :
    firstStage96 v q r (ix4 b h n j) = Row.first (v (ix4 b h n 0)) (row q b h n) (mat r) j := by
  pointwise [firstStage96, times96, spread96]
  rfl

theorem secondStage96_at (e : T Ideal S2x16x4096x96 .f32) (s : T Ideal S96x96 .f32) (b : Fin 2) (h : Fin 16) (n : Fin 4096)
    (j : Fin 96) :
    secondStage96 e s (ix4 b h n j)
      = Row.second (Ideal.div (Ideal.ofBits .f32 0x3FA06C99#32) (Ideal.ofBits .f32 0x42C00000#32)) (row e b h n) (mat s) j := by
  pointwise [secondStage96, times96, spread96]
  simp only [signs96_at, project96_at, rowNorm96_at]
  rfl

theorem bothStages96_at (x : T Ideal S2x16x4096x96 .f32) (v : T Ideal S2x16x4096x1 .f32) (q : T Ideal S2x16x4096x96 .f32)
    (r s : T Ideal S96x96 .f32) (b : Fin 2) (h : Fin 16) (n : Fin 4096) (j : Fin 96) :
    bothStages96 x v q r s (ix4 b h n j)
      = Row.both (Ideal.div (Ideal.ofBits .f32 0x3FA06C99#32) (Ideal.ofBits .f32 0x42C00000#32)) (row x b h n) (v (ix4 b h n 0))
          (row q b h n) (mat r) (mat s) j := by
  have e : row (subf x (firstStage96 v q r)) b h n
      = fun k => row x b h n k - Row.first (v (ix4 b h n 0)) (row q b h n) (mat r) k :=
    funext fun k => congrArg (x (ix4 b h n k) - ·) (firstStage96_at v q r b h n k)
  show firstStage96 v q r (ix4 b h n j) + secondStage96 (subf x (firstStage96 v q r)) s (ix4 b h n j) = _
  rw [firstStage96_at, secondStage96_at, e]
  rfl

theorem gather96_at (l : T Ideal S2 .f32) (i : T Ideal S2x16x4096x96x1 .i32) (b : Fin 2) (h : Fin 16) (n : Fin 4096) (j : Fin 96)
    (k : Fin 2) (hk : i (ix5 b h n j 0) = BitVec.ofNat 32 k) :
    Host.gather gather_S2_S2x16x4096x96x1_S2x16x4096x96_n_0_n_n_0_4_1 l i (ix4 b h n j) = l (ix1 k) := by
  refine congrArg l (funext fun a => Fin.ext ?_)
  match a with
  | ⟨0, _⟩ =>
    show min (i (GatherDims.siIdx gather_S2_S2x16x4096x96x1_S2x16x4096x96_n_0_n_n_0_4_1 (ix4 b h n j) ⟨0, by decide⟩)).toInt.toNat (2 - 1) + 0 + 0 = k.val
    have e : GatherDims.siIdx gather_S2_S2x16x4096x96x1_S2x16x4096x96_n_0_n_n_0_4_1 (ix4 b h n j) ⟨0, by decide⟩ = ix5 b h n j 0 := by
      funext c
      apply Fin.ext
      fin_cases c <;> rfl
    rw [e, hk]
    clear hk
    revert k; decide

/-- The level at an index in range. -/
theorem levelAt96_at (l : T Ideal S2 .f32) (i : T Ideal S2x16x4096x96 .i32) (b : Fin 2) (h : Fin 16) (n : Fin 4096) (j : Fin 96)
    (k : Fin 2) (hk : i (ix4 b h n j) = BitVec.ofNat 32 k) : levelAt96 l (wrapLevel96 i) (ix4 b h n j) = l (ix1 k) := by
  have hw : wrapLevel96 (F := Ideal) i (ix5 b h n j 0) = BitVec.ofNat 32 k := by
    pointwise [wrapLevel96]
    rw [hk]
    clear hk
    revert k; decide
  have hc : IntOp.andi (IntOp.cmpi .sge (BitVec.ofNat 32 k) 0#32) (IntOp.cmpi .sle (BitVec.ofNat 32 k) 1#32) = 1#1 := by
    clear hk hw
    revert k; decide
  unfold levelAt96
  pointwise []
  rw [fold_andi_one, gather96_at l _ b h n j k hw]
  pointwise []
  rw [hw, hc]
  rfl
/-- The entries that a search along the last dimension goes through, in order. -/
theorem fiber96 (x : T Ideal S2x16x4096x96x2 .f32) (y : T Ideal S2x16x4096x96x2 .i32) (b : Fin 2) (h : Fin 16) (n : Fin 4096) (j : Fin 96) :
    Host.argReduceFiber x y reducesTo_S2x16x4096x96x2_S2x16x4096x96_d4 (ix4 b h n j)
      = (List.finRange 2).map fun k => (x (ix5 b h n j k), y (ix5 b h n j k)) := by
  have hf : ((List.finRange S2x16x4096x96x2.numel).filter fun m =>
        reducesTo_S2x16x4096x96x2_S2x16x4096x96_d4.drop (S2x16x4096x96x2.rowMajor.symm m) = ix4 b h n j)
      = (List.finRange 2).map fun k => S2x16x4096x96x2.rowMajor (ix5 b h n j k) := by
    have hinj : ∀ k k' : Fin 2, k < k' → S2x16x4096x96x2.rowMajor (ix5 b h n j k) < S2x16x4096x96x2.rowMajor (ix5 b h n j k') := by
      intro k k' hk
      rw [Fin.lt_def, Shape.rowMajor_val_five, Shape.rowMajor_val_five]
      exact Nat.add_lt_add_left hk _
    have hs1 := (List.pairwise_lt_finRange S2x16x4096x96x2.numel).filter
      (fun m => decide (reducesTo_S2x16x4096x96x2_S2x16x4096x96_d4.drop (S2x16x4096x96x2.rowMajor.symm m) = ix4 b h n j))
    have hs2 : ((List.finRange 2).map fun k => S2x16x4096x96x2.rowMajor (ix5 b h n j k)).Pairwise (· < ·) :=
      List.pairwise_map.mpr ((List.pairwise_lt_finRange 2).imp fun hk => hinj _ _ hk)
    refine List.Perm.eq_of_pairwise (le := (· < ·)) (fun a c _ _ h1 h2 => absurd h1 h2.asymm) hs1 hs2 ?_
    refine (List.perm_ext_iff_of_nodup (hs1.imp fun h => h.ne) (hs2.imp fun h => h.ne)).mpr fun m => ?_
    obtain ⟨i, rfl⟩ := S2x16x4096x96x2.rowMajor.surjective m
    simp only [List.mem_filter, List.mem_finRange, true_and, Equiv.symm_apply_apply, decide_eq_true_eq, List.mem_map,
      EmbeddingLike.apply_eq_iff_eq]
    constructor
    · intro hd
      refine ⟨i 4, ?_⟩
      have hc := fun a => congrArg Fin.val (congrFun hd a)
      funext a
      apply Fin.ext
      fin_cases a
      · exact (hc 0).symm
      · exact (hc 1).symm
      · exact (hc 2).symm
      · exact (hc 3).symm
      · rfl
    · rintro ⟨k, rfl⟩
      funext a
      apply Fin.ext
      fin_cases a <;> rfl
  unfold Host.argReduceFiber
  rw [hf, List.map_map]
  exact List.map_congr_left fun k _ => by simp only [Function.comp, Equiv.symm_apply_apply]

theorem distances96_at (l : T Ideal S2 .f32) (y : T Ideal S2x16x4096x96 .f32) (b : Fin 2) (h : Fin 16) (n : Fin 4096) (j : Fin 96)
    (k : Fin 2) : distances96 l y (ix5 b h n j k) = Row.dist (y (ix4 b h n j)) (l (ix1 k)) := by
  pointwise [distances96]
  rfl

theorem nearest96_eq : nearest96 (F := Ideal) = fun d j =>
    (Host.argReduce (F := Ideal) (reducer_argmin_f32_i32 (F := Ideal)) d (iotaInDim S2x16x4096x96x2 32 4)
      (constant (F := Ideal) S_ .f32 0x7F800000#32) (constantI S_ 32 0#32) reducesTo_S2x16x4096x96x2_S2x16x4096x96_d4 h_S_ j).2 := rfl

theorem nearest96_fold (d : T Ideal S2x16x4096x96x2 .f32) (b : Fin 2) (h : Fin 16) (n : Fin 4096) (j : Fin 96) :
    nearest96 d (ix4 b h n j) = (List.foldl reducer_argmin_f32_i32 (Ideal.ofBits .f32 0x7F800000#32, 0#32)
      ((List.finRange 2).map fun k => (d (ix5 b h n j k), BitVec.ofNat 32 k))).2 := by
  have e := arg_fold (reducer_argmin_f32_i32 (F := Ideal)) d (iotaInDim S2x16x4096x96x2 32 4) (constant (F := Ideal) S_ .f32 0x7F800000#32)
    (constantI S_ 32 0#32) reducesTo_S2x16x4096x96x2_S2x16x4096x96_d4 h_S_ (ix4 b h n j) (Ideal.ofBits .f32 0x7F800000#32) 0#32
    (by intro i; rfl) (by intro i; rfl)
  have f := fiber96 d (iotaInDim S2x16x4096x96x2 32 4) b h n j
  have hi : ∀ k : Fin 2, iotaInDim S2x16x4096x96x2 32 4 (ix5 b h n j k) = BitVec.ofNat 32 k := fun k => rfl
  simp only [hi] at f
  have e2 := e.trans (congrArg (List.foldl _ _) f)
  have u := congrFun (congrFun nearest96_eq d) (ix4 b h n j)
  exact u.trans (congrArg Prod.snd e2)

theorem nearest96_at (l : T Ideal S2 .f32) (y : T Ideal S2x16x4096x96 .f32) (b : Fin 2) (h : Fin 16) (n : Fin 4096) (j : Fin 96) :
    nearest96 (distances96 l y) (ix4 b h n j) = (Row.better (Row.dist (y (ix4 b h n j)) (l (ix1 0)), 0#32) (Row.dist (y (ix4 b h n j)) (l (ix1 1)), 1#32)).2 := by
  rw [nearest96_fold, Row.w_inf]
  simp only [distances96_at]
  rw [show List.finRange 2 = [0, 1] from rfl]
  simp only [List.map_cons, List.map_nil, List.foldl_cons, List.foldl_nil]
  simp only [show BitVec.ofNat 32 (((0 : Fin 2) : ℕ)) = 0#32 from rfl, show BitVec.ofNat 32 (((1 : Fin 2) : ℕ)) = 1#32 from rfl]
  rw [reducer_start, reducer_eq _ _ (lt_toInt 0#32 1#32 rfl rfl (by decide))]

theorem levels96_at (k : Fin 2) : levels96 (F := Ideal) (ix1 k) = Ideal.ofBits .f32 (lit0 k) := by
  unfold levels96
  rw [show S2.rowMajor (ix1 k) = k from Fin.ext (Shape.rowMajor_val_one _)]
  rfl

/-- A real number's quantised value. -/
theorem quantise96_at (y : T Ideal S2x16x4096x96 .f32) (b : Fin 2) (h : Fin 16) (n : Fin 4096) (j : Fin 96) (v : ℝ)
    (hy : y (ix4 b h n j) = v) : quantise96 levels96 y (ix4 b h n j) = Row.quantReg v := by
  unfold quantise96
  have hl : ∀ (k : Fin 2), nearest96 (distances96 levels96 y) (ix4 b h n j) = BitVec.ofNat 32 k →
      levelAt96 levels96 (wrapLevel96 (nearest96 (distances96 levels96 y))) (ix4 b h n j) = Ideal.ofBits .f32 (lit0 k) :=
    fun k hk => (levelAt96_at _ _ b h n j k hk).trans (levels96_at k)
  have e := nearest96_at levels96 y b h n j
  rw [hy] at e
  simp only [levels96_at] at e
  rw [← Row.nearest_reg v (L := fun w => Ideal.ofBits .f32 (lit0 (Fin.ofNat 2 w.toNat))) rfl rfl]
  generalize hw : nearest96 (distances96 levels96 y) (ix4 b h n j) = w at hl e
  have hm : w = 0#32 ∨ w = 1#32 := by
    rw [e]
    exact better_snd _ _
  have hc : w = BitVec.ofNat 32 (Fin.ofNat 2 w.toNat : Fin 2) := by
    rcases hm with g | g <;> rw [g] <;> decide
  rw [hl _ hc, e]
  rfl

/-- The group's round trip, row by row, where the rotation is real. -/
theorem roundTrip96_at (x : T Ideal S2x16x4096x96 .f32) (r s : T Ideal S96x96 .f32) (hr : ∀ i j, ∃ v : ℝ, mat r i j = v)
    (b : Fin 2) (h : Fin 16) (n : Fin 4096) (j : Fin 96) :
    roundTrip96 levels96 x r s (ix4 b h n j)
      = Row.trip (Ideal.div (Ideal.ofBits .f32 0x3FA06C99#32) (Ideal.ofBits .f32 0x42C00000#32)) Row.quantReg (row x b h n) (mat r) (mat s) j := by
  unfold roundTrip96
  rw [bothStages96_at, rowNorm96_at]
  have e : row (quantise96 levels96 (project96 x (rowNorm96 0x322BCC77#32 x) r)) b h n
      = fun k => Row.quantReg (Row.proj (row x b h n) (Row.norm 0x322BCC77#32 (row x b h n)) (mat r) k) := by
    funext k
    obtain ⟨v, hv⟩ := Row.proj_real (row x b h n) (mat r) hr k
    rw [hv]
    refine quantise96_at _ b h n k v ?_
    rw [project96_at, rowNorm96_at, hv]
  rw [e]
  rfl

/-! ## The second group -/

theorem rowNorm32_at (w : BitVec 32) (x : T Ideal S2x16x4096x32 .f32) (b : Fin 2) (h : Fin 16) (n : Fin 4096) :
    rowNorm32 w x (ix4 b h n 0) = Row.norm w (row x b h n) := by
  pointwise [rowNorm32]
  exact max_comm _ _

theorem project32_at (x : T Ideal S2x16x4096x32 .f32) (v : T Ideal S2x16x4096x1 .f32) (r : T Ideal S32x32 .f32)
    (b : Fin 2) (h : Fin 16) (n : Fin 4096) (j : Fin 32) :
    project32 x v r (ix4 b h n j) = Row.proj (row x b h n) (v (ix4 b h n 0)) (mat r) j := by
  pointwise [project32, times32, spread32]
  rfl

theorem signs32_at (p : T Ideal S2x16x4096x32 .f32) (b : Fin 2) (h : Fin 16) (n : Fin 4096) (j : Fin 32) :
    signs32 p (ix4 b h n j) = Row.sgn (p (ix4 b h n j)) := by
  unfold signs32
  rw [id]
  pointwise []
  rfl

theorem firstStage32_at (v : T Ideal S2x16x4096x1 .f32) (q : T Ideal S2x16x4096x32 .f32) (r : T Ideal S32x32 .f32)
    (b : Fin 2) (h : Fin 16) (n : Fin 4096) (j : Fin 32) :
    firstStage32 v q r (ix4 b h n j) = Row.first (v (ix4 b h n 0)) (row q b h n) (mat r) j := by
  pointwise [firstStage32, times32, spread32]
  rfl

theorem secondStage32_at (e : T Ideal S2x16x4096x32 .f32) (s : T Ideal S32x32 .f32) (b : Fin 2) (h : Fin 16) (n : Fin 4096)
    (j : Fin 32) :
    secondStage32 e s (ix4 b h n j)
      = Row.second (Ideal.div (Ideal.ofBits .f32 0x3FA06C99#32) (Ideal.ofBits .f32 0x42000000#32)) (row e b h n) (mat s) j := by
  pointwise [secondStage32, times32, spread32]
  simp only [signs32_at, project32_at, rowNorm32_at]
  rfl

theorem bothStages32_at (x : T Ideal S2x16x4096x32 .f32) (v : T Ideal S2x16x4096x1 .f32) (q : T Ideal S2x16x4096x32 .f32)
    (r s : T Ideal S32x32 .f32) (b : Fin 2) (h : Fin 16) (n : Fin 4096) (j : Fin 32) :
    bothStages32 x v q r s (ix4 b h n j)
      = Row.both (Ideal.div (Ideal.ofBits .f32 0x3FA06C99#32) (Ideal.ofBits .f32 0x42000000#32)) (row x b h n) (v (ix4 b h n 0))
          (row q b h n) (mat r) (mat s) j := by
  have e : row (subf x (firstStage32 v q r)) b h n
      = fun k => row x b h n k - Row.first (v (ix4 b h n 0)) (row q b h n) (mat r) k :=
    funext fun k => congrArg (x (ix4 b h n k) - ·) (firstStage32_at v q r b h n k)
  show firstStage32 v q r (ix4 b h n j) + secondStage32 (subf x (firstStage32 v q r)) s (ix4 b h n j) = _
  rw [firstStage32_at, secondStage32_at, e]
  rfl

theorem gather32_at (l : T Ideal S4 .f32) (i : T Ideal S2x16x4096x32x1 .i32) (b : Fin 2) (h : Fin 16) (n : Fin 4096) (j : Fin 32)
    (k : Fin 4) (hk : i (ix5 b h n j 0) = BitVec.ofNat 32 k) :
    Host.gather gather_S4_S2x16x4096x32x1_S2x16x4096x32_n_0_n_n_0_4_1 l i (ix4 b h n j) = l (ix1 k) := by
  refine congrArg l (funext fun a => Fin.ext ?_)
  match a with
  | ⟨0, _⟩ =>
    show min (i (GatherDims.siIdx gather_S4_S2x16x4096x32x1_S2x16x4096x32_n_0_n_n_0_4_1 (ix4 b h n j) ⟨0, by decide⟩)).toInt.toNat (4 - 1) + 0 + 0 = k.val
    have e : GatherDims.siIdx gather_S4_S2x16x4096x32x1_S2x16x4096x32_n_0_n_n_0_4_1 (ix4 b h n j) ⟨0, by decide⟩ = ix5 b h n j 0 := by
      funext c
      apply Fin.ext
      fin_cases c <;> rfl
    rw [e, hk]
    clear hk
    revert k; decide

/-- The level at an index in range. -/
theorem levelAt32_at (l : T Ideal S4 .f32) (i : T Ideal S2x16x4096x32 .i32) (b : Fin 2) (h : Fin 16) (n : Fin 4096) (j : Fin 32)
    (k : Fin 4) (hk : i (ix4 b h n j) = BitVec.ofNat 32 k) : levelAt32 l (wrapLevel32 i) (ix4 b h n j) = l (ix1 k) := by
  have hw : wrapLevel32 (F := Ideal) i (ix5 b h n j 0) = BitVec.ofNat 32 k := by
    pointwise [wrapLevel32]
    rw [hk]
    clear hk
    revert k; decide
  have hc : IntOp.andi (IntOp.cmpi .sge (BitVec.ofNat 32 k) 0#32) (IntOp.cmpi .sle (BitVec.ofNat 32 k) 3#32) = 1#1 := by
    clear hk hw
    revert k; decide
  unfold levelAt32
  pointwise []
  rw [fold_andi_one, gather32_at l _ b h n j k hw]
  pointwise []
  rw [hw, hc]
  rfl
/-- The entries that a search along the last dimension goes through, in order. -/
theorem fiber32 (x : T Ideal S2x16x4096x32x4 .f32) (y : T Ideal S2x16x4096x32x4 .i32) (b : Fin 2) (h : Fin 16) (n : Fin 4096) (j : Fin 32) :
    Host.argReduceFiber x y reducesTo_S2x16x4096x32x4_S2x16x4096x32_d4 (ix4 b h n j)
      = (List.finRange 4).map fun k => (x (ix5 b h n j k), y (ix5 b h n j k)) := by
  have hf : ((List.finRange S2x16x4096x32x4.numel).filter fun m =>
        reducesTo_S2x16x4096x32x4_S2x16x4096x32_d4.drop (S2x16x4096x32x4.rowMajor.symm m) = ix4 b h n j)
      = (List.finRange 4).map fun k => S2x16x4096x32x4.rowMajor (ix5 b h n j k) := by
    have hinj : ∀ k k' : Fin 4, k < k' → S2x16x4096x32x4.rowMajor (ix5 b h n j k) < S2x16x4096x32x4.rowMajor (ix5 b h n j k') := by
      intro k k' hk
      rw [Fin.lt_def, Shape.rowMajor_val_five, Shape.rowMajor_val_five]
      exact Nat.add_lt_add_left hk _
    have hs1 := (List.pairwise_lt_finRange S2x16x4096x32x4.numel).filter
      (fun m => decide (reducesTo_S2x16x4096x32x4_S2x16x4096x32_d4.drop (S2x16x4096x32x4.rowMajor.symm m) = ix4 b h n j))
    have hs2 : ((List.finRange 4).map fun k => S2x16x4096x32x4.rowMajor (ix5 b h n j k)).Pairwise (· < ·) :=
      List.pairwise_map.mpr ((List.pairwise_lt_finRange 4).imp fun hk => hinj _ _ hk)
    refine List.Perm.eq_of_pairwise (le := (· < ·)) (fun a c _ _ h1 h2 => absurd h1 h2.asymm) hs1 hs2 ?_
    refine (List.perm_ext_iff_of_nodup (hs1.imp fun h => h.ne) (hs2.imp fun h => h.ne)).mpr fun m => ?_
    obtain ⟨i, rfl⟩ := S2x16x4096x32x4.rowMajor.surjective m
    simp only [List.mem_filter, List.mem_finRange, true_and, Equiv.symm_apply_apply, decide_eq_true_eq, List.mem_map,
      EmbeddingLike.apply_eq_iff_eq]
    constructor
    · intro hd
      refine ⟨i 4, ?_⟩
      have hc := fun a => congrArg Fin.val (congrFun hd a)
      funext a
      apply Fin.ext
      fin_cases a
      · exact (hc 0).symm
      · exact (hc 1).symm
      · exact (hc 2).symm
      · exact (hc 3).symm
      · rfl
    · rintro ⟨k, rfl⟩
      funext a
      apply Fin.ext
      fin_cases a <;> rfl
  unfold Host.argReduceFiber
  rw [hf, List.map_map]
  exact List.map_congr_left fun k _ => by simp only [Function.comp, Equiv.symm_apply_apply]

theorem distances32_at (l : T Ideal S4 .f32) (y : T Ideal S2x16x4096x32 .f32) (b : Fin 2) (h : Fin 16) (n : Fin 4096) (j : Fin 32)
    (k : Fin 4) : distances32 l y (ix5 b h n j k) = Row.dist (y (ix4 b h n j)) (l (ix1 k)) := by
  pointwise [distances32]
  rfl

theorem nearest32_eq : nearest32 (F := Ideal) = fun d j =>
    (Host.argReduce (F := Ideal) (reducer_argmin_f32_i32 (F := Ideal)) d (iotaInDim S2x16x4096x32x4 32 4)
      (constant (F := Ideal) S_ .f32 0x7F800000#32) (constantI S_ 32 0#32) reducesTo_S2x16x4096x32x4_S2x16x4096x32_d4 h_S_ j).2 := rfl

theorem nearest32_fold (d : T Ideal S2x16x4096x32x4 .f32) (b : Fin 2) (h : Fin 16) (n : Fin 4096) (j : Fin 32) :
    nearest32 d (ix4 b h n j) = (List.foldl reducer_argmin_f32_i32 (Ideal.ofBits .f32 0x7F800000#32, 0#32)
      ((List.finRange 4).map fun k => (d (ix5 b h n j k), BitVec.ofNat 32 k))).2 := by
  have e := arg_fold (reducer_argmin_f32_i32 (F := Ideal)) d (iotaInDim S2x16x4096x32x4 32 4) (constant (F := Ideal) S_ .f32 0x7F800000#32)
    (constantI S_ 32 0#32) reducesTo_S2x16x4096x32x4_S2x16x4096x32_d4 h_S_ (ix4 b h n j) (Ideal.ofBits .f32 0x7F800000#32) 0#32
    (by intro i; rfl) (by intro i; rfl)
  have f := fiber32 d (iotaInDim S2x16x4096x32x4 32 4) b h n j
  have hi : ∀ k : Fin 4, iotaInDim S2x16x4096x32x4 32 4 (ix5 b h n j k) = BitVec.ofNat 32 k := fun k => rfl
  simp only [hi] at f
  have e2 := e.trans (congrArg (List.foldl _ _) f)
  have u := congrFun (congrFun nearest32_eq d) (ix4 b h n j)
  exact u.trans (congrArg Prod.snd e2)

theorem nearest32_at (l : T Ideal S4 .f32) (y : T Ideal S2x16x4096x32 .f32) (b : Fin 2) (h : Fin 16) (n : Fin 4096) (j : Fin 32) :
    nearest32 (distances32 l y) (ix4 b h n j) = (Row.better (Row.better (Row.better (Row.dist (y (ix4 b h n j)) (l (ix1 0)), 0#32) (Row.dist (y (ix4 b h n j)) (l (ix1 1)), 1#32)) (Row.dist (y (ix4 b h n j)) (l (ix1 2)), 2#32)) (Row.dist (y (ix4 b h n j)) (l (ix1 3)), 3#32)).2 := by
  rw [nearest32_fold, Row.w_inf]
  simp only [distances32_at]
  rw [show List.finRange 4 = [0, 1, 2, 3] from rfl]
  simp only [List.map_cons, List.map_nil, List.foldl_cons, List.foldl_nil]
  simp only [show BitVec.ofNat 32 (((0 : Fin 4) : ℕ)) = 0#32 from rfl, show BitVec.ofNat 32 (((1 : Fin 4) : ℕ)) = 1#32 from rfl, show BitVec.ofNat 32 (((2 : Fin 4) : ℕ)) = 2#32 from rfl, show BitVec.ofNat 32 (((3 : Fin 4) : ℕ)) = 3#32 from rfl]
  have e1 : ∀ a b : EReal, (Row.better (a, 0#32) (b, 1#32)).2 = 0#32 ∨ (Row.better (a, 0#32) (b, 1#32)).2 = 1#32 :=
    fun a b => better_snd _ _
  have e2 : ∀ a b c : EReal, (Row.better (Row.better (a, 0#32) (b, 1#32)) (c, 2#32)).2 = 0#32
      ∨ (Row.better (Row.better (a, 0#32) (b, 1#32)) (c, 2#32)).2 = 1#32
      ∨ (Row.better (Row.better (a, 0#32) (b, 1#32)) (c, 2#32)).2 = 2#32 := fun a b c => by
    rcases better_snd (Row.better (a, 0#32) (b, 1#32)) (c, 2#32) with g | g
    · rw [g]
      exact (e1 a b).imp_right .inl
    · exact .inr (.inr g)
  rw [reducer_start, reducer_eq (_, 0#32) (_, 1#32), reducer_eq (Row.better _ _) (_, 2#32), reducer_eq (Row.better _ _) (_, 3#32)]
  · rcases e2 _ _ _ with g | g | g <;> exact lt_toInt _ 3#32 g rfl (by decide)
  · rcases e1 _ _ with g | g <;> exact lt_toInt _ 2#32 g rfl (by decide)
  · exact lt_toInt 0#32 1#32 rfl rfl (by decide)

theorem levels32_at (k : Fin 4) : levels32 (F := Ideal) (ix1 k) = Ideal.ofBits .f32 (lit1 k) := by
  unfold levels32
  rw [show S4.rowMajor (ix1 k) = k from Fin.ext (Shape.rowMajor_val_one _)]
  rfl

/-- A real number's quantised value. -/
theorem quantise32_at (y : T Ideal S2x16x4096x32 .f32) (b : Fin 2) (h : Fin 16) (n : Fin 4096) (j : Fin 32) (v : ℝ)
    (hy : y (ix4 b h n j) = v) : quantise32 levels32 y (ix4 b h n j) = Row.quantOut v := by
  unfold quantise32
  have hl : ∀ (k : Fin 4), nearest32 (distances32 levels32 y) (ix4 b h n j) = BitVec.ofNat 32 k →
      levelAt32 levels32 (wrapLevel32 (nearest32 (distances32 levels32 y))) (ix4 b h n j) = Ideal.ofBits .f32 (lit1 k) :=
    fun k hk => (levelAt32_at _ _ b h n j k hk).trans (levels32_at k)
  have e := nearest32_at levels32 y b h n j
  rw [hy] at e
  simp only [levels32_at] at e
  rw [← Row.nearest_out v (L := fun w => Ideal.ofBits .f32 (lit1 (Fin.ofNat 4 w.toNat))) rfl rfl rfl rfl]
  generalize hw : nearest32 (distances32 levels32 y) (ix4 b h n j) = w at hl e
  have hm : w = 0#32 ∨ w = 1#32 ∨ w = 2#32 ∨ w = 3#32 := by
    rw [e]
    rcases better_snd (Row.better (Row.better _ _) _) (Row.dist v (Ideal.ofBits .f32 (lit1 3)), 3#32) with g | g
    · rw [g]
      rcases better_snd (Row.better _ _) (Row.dist v (Ideal.ofBits .f32 (lit1 2)), 2#32) with g | g
      · rw [g]
        rcases better_snd (Row.dist v (Ideal.ofBits .f32 (lit1 0)), 0#32) (Row.dist v (Ideal.ofBits .f32 (lit1 1)), 1#32) with g | g
        · exact .inl g
        · exact .inr (.inl g)
      · exact .inr (.inr (.inl g))
    · exact .inr (.inr (.inr g))
  have hc : w = BitVec.ofNat 32 (Fin.ofNat 4 w.toNat : Fin 4) := by
    rcases hm with g | g | g | g <;> rw [g] <;> decide
  rw [hl _ hc, e]
  rfl

/-- The group's round trip, row by row, where the rotation is real. -/
theorem roundTrip32_at (x : T Ideal S2x16x4096x32 .f32) (r s : T Ideal S32x32 .f32) (hr : ∀ i j, ∃ v : ℝ, mat r i j = v)
    (b : Fin 2) (h : Fin 16) (n : Fin 4096) (j : Fin 32) :
    roundTrip32 levels32 x r s (ix4 b h n j)
      = Row.trip (Ideal.div (Ideal.ofBits .f32 0x3FA06C99#32) (Ideal.ofBits .f32 0x42000000#32)) Row.quantOut (row x b h n) (mat r) (mat s) j := by
  unfold roundTrip32
  rw [bothStages32_at, rowNorm32_at]
  have e : row (quantise32 levels32 (project32 x (rowNorm32 0x322BCC77#32 x) r)) b h n
      = fun k => Row.quantOut (Row.proj (row x b h n) (Row.norm 0x322BCC77#32 (row x b h n)) (mat r) k) := by
    funext k
    obtain ⟨v, hv⟩ := Row.proj_real (row x b h n) (mat r) hr k
    rw [hv]
    refine quantise32_at _ b h n k v ?_
    rw [project32_at, rowNorm32_at, hv]
  rw [e]
  rfl

end Cert.RefStages

end
-- ==== Proof.Order.lean ====
/-
  Ranks. A stable sort of `n` keys puts at position `k` the key of rank `k`, where a key's rank is the number of keys
  that are less, or equal and of lesser index. The kernel computes ranks by counting; the reference sorts.
-/
module

public import Idealize.ShloMosaic.Lib.SortFacts

@[expose] public section

noncomputable section

namespace Cert.Order

open Idealize.ShloMosaic

variable {n : ℕ} {α : Type} [LinearOrder α]

/-- Key `i` comes before key `j`: it is less, or equal and of lesser index. -/
def Before (key : Fin n → α) (i j : Fin n) : Prop := key i < key j ∨ (key i = key j ∧ i < j)

instance (key : Fin n → α) (i j : Fin n) : Decidable (Before key i j) := by unfold Before; infer_instance

theorem Before.asymm {key : Fin n → α} {i j : Fin n} (h : Before key i j) : ¬ Before key j i := by
  rcases h with h | ⟨h, h'⟩ <;> rintro (g | ⟨g, g'⟩)
  · exact absurd h g.asymm
  · exact absurd g h.ne'
  · exact absurd h g.ne'
  · exact absurd h' g'.asymm

theorem Before.total (key : Fin n → α) {i j : Fin n} (h : i ≠ j) : Before key i j ∨ Before key j i := by
  rcases lt_trichotomy (key i) (key j) with g | g | g
  · exact .inl (.inl g)
  · rcases lt_or_gt_of_ne h with k | k
    · exact .inl (.inr ⟨g, k⟩)
    · exact .inr (.inr ⟨g.symm, k⟩)
  · exact .inr (.inl g)

theorem Before.trans {key : Fin n → α} {i j k : Fin n} (h : Before key i j) (h' : Before key j k) : Before key i k := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- How many keys come before key `j`. -/
def rank (key : Fin n → α) (j : Fin n) : ℕ := (Finset.univ.filter fun i => Before key i j).card

/-- A stable insertion of elements in index order breaks ties by index. -/
theorem stableSort_eq (key : Fin n → α) (l : List (Fin n)) (h : l.Pairwise (· < ·)) :
    stableSort (fun a b => decide (key a < key b)) l = stableSort (fun a b => decide (Before key a b)) l := by
  induction l with
  | nil => rfl
  | cons a l ih =>
    have hl := List.pairwise_cons.mp h
    unfold stableSort
    rw [ih hl.2]
    refine insertBefore_congr _ _ a _ fun b hb => ?_
    have hab : a < b := hl.1 b ((perm_stableSort _ l).mem_iff.mp hb)
    refine decide_eq_decide.mpr ?_
    exact ⟨.inl, fun g => g.resolve_right fun k => absurd k.2 hab.asymm⟩

/-- The position that a stable sort by keys takes element `k` from. -/
abbrev sorted (key : Fin n → α) : Fin n → Fin n := sortedFrom fun a b => decide (key a < key b)

theorem sorted_before (key : Fin n → α) {i j : Fin n} (h : i < j) : Before key (sorted key i) (sorted key j) := by
  have e : sorted key = sortedFrom fun a b => decide (Before key a b) := by
    funext k
    have hs : sortPositions n (fun a b => decide (key a < key b)) = sortPositions n (fun a b => decide (Before key a b)) :=
      stableSort_eq key _ (List.pairwise_lt_finRange n)
    simp only [sorted, sortedFrom, List.get_eq_getElem, hs]
    rfl
  have hne : sorted key i ≠ sorted key j := fun g => h.ne (sortedFrom_injective _ g)
  have hn := sortedFrom_noInversion (fun a b => decide (Before key a b)) (fun a b => decide (Before key a b))
    (fun a b hab => by simpa using (of_decide_eq_true hab).asymm) (fun a b hab => hab)
    (fun a b c hab hbc => by
      simp only [decide_eq_false_iff_not] at *
      intro hac
      by_cases e₁ : a = b
      · subst e₁; exact hbc hac
      by_cases e₂ : b = c
      · subst e₂; exact hab hac
      have h₁ := (Before.total key e₁).resolve_left hab
      have h₂ := (Before.total key e₂).resolve_left hbc
      exact ((h₂.trans h₁).asymm) hac) i j h
  rw [← e] at hn
  exact (Before.total key hne).resolve_right (by simpa using hn)

/-- The element at position `k` has rank `k`. -/
theorem rank_sorted (key : Fin n → α) (k : Fin n) : rank key (sorted key k) = k := by
  have e : (Finset.univ.filter fun i => Before key i (sorted key k)) = (Finset.Iio k).image (sorted key) := by
    ext i
    obtain ⟨a, rfl⟩ := sortedFrom_surjective (fun a b => decide (key a < key b)) i
    simp only [Finset.mem_filter, Finset.mem_univ, true_and, Finset.mem_image, Finset.mem_Iio]
    constructor
    · intro h
      refine ⟨a, ?_, rfl⟩
      rcases lt_trichotomy a k with g | g | g
      · exact g
      · subst g; exact absurd h h.asymm
      · exact absurd h (sorted_before key g).asymm
    · rintro ⟨b, hb, e⟩
      rw [← e]
      exact sorted_before key hb
  rw [rank, e, Finset.card_image_of_injective _ (sortedFrom_injective _), Fin.card_Iio]

theorem rank_lt (key : Fin n → α) (j : Fin n) : rank key j < n := by
  obtain ⟨k, rfl⟩ := sortedFrom_surjective (fun a b => decide (key a < key b)) j
  rw [rank_sorted key k]; exact k.2

/-- A key's rank, as a position. -/
def pos (key : Fin n → α) (j : Fin n) : Fin n := ⟨rank key j, rank_lt key j⟩

theorem pos_sorted (key : Fin n → α) (k : Fin n) : pos key (sorted key k) = k := Fin.ext (rank_sorted key k)

theorem sorted_pos (key : Fin n → α) (j : Fin n) : sorted key (pos key j) = j := by
  obtain ⟨k, rfl⟩ := sortedFrom_surjective (fun a b => decide (key a < key b)) j
  rw [pos_sorted key k]

/-- Keys and positions correspond one to one. -/
def posEquiv (key : Fin n → α) : Fin n ≃ Fin n := ⟨pos key, sorted key, sorted_pos key, pos_sorted key⟩

/-- As many keys have rank less than `m` as there are numbers less than `m`. -/
theorem card_rank_lt (key : Fin n → α) {m : ℕ} (h : m ≤ n) :
    (Finset.univ.filter fun j => rank key j < m).card = m := by
  have e : (Finset.univ.filter fun j => rank key j < m).map (posEquiv key).toEmbedding
      = Finset.univ.filter fun k : Fin n => (k : ℕ) < m := by
    ext k
    simp only [Finset.mem_map, Finset.mem_filter, Finset.mem_univ, true_and]
    constructor
    · rintro ⟨j, hj, rfl⟩; exact hj
    · intro hk
      exact ⟨sorted key k, by rw [rank_sorted]; exact hk, pos_sorted key k⟩
  rw [← Finset.card_map, e, Fin.card_filter_val_lt, min_eq_right h]

/-- Sorting keys that are themselves an arrangement of the positions gives the arrangement's inverse. -/
theorem rank_of_bijective (p : Fin n ≃ Fin n) (j : Fin n) : rank (fun i => ((p i : ℕ) : ℤ)) j = p j := by
  have e : (Finset.univ.filter fun i => Before (fun i => ((p i : ℕ) : ℤ)) i j).map p.toEmbedding = Finset.Iio (p j) := by
    ext k
    simp only [Finset.mem_map, Finset.mem_filter, Finset.mem_univ, true_and, Finset.mem_Iio, Equiv.coe_toEmbedding]
    constructor
    · rintro ⟨i, h | ⟨h, h'⟩, rfl⟩
      · have h : ((p i : ℕ) : ℤ) < ((p j : ℕ) : ℤ) := h
        exact_mod_cast h
      · have h : ((p i : ℕ) : ℤ) = ((p j : ℕ) : ℤ) := h
        have : p i = p j := Fin.ext (by exact_mod_cast h)
        exact absurd (p.injective this) h'.ne
    · intro h
      exact ⟨p.symm k, .inl (by
        show ((p (p.symm k) : ℕ) : ℤ) < ((p j : ℕ) : ℤ)
        rw [Equiv.apply_symm_apply]; exact_mod_cast h), Equiv.apply_symm_apply ..⟩
  rw [rank, ← Finset.card_map, e, Fin.card_Iio]

/-! ## Two classes -/

/-- The class as a key: zero for the first, one for the second. -/
def classKey (P : Fin n → Prop) [DecidablePred P] (i : Fin n) : ℤ := if P i then 1 else 0

variable (P : Fin n → Prop) [DecidablePred P]

/-- A member of the first class is preceded by the lesser members of that class. -/
theorem rank_class_of_not {j : Fin n} (h : ¬ P j) :
    rank (classKey P) j = (Finset.univ.filter fun i => ¬ P i ∧ i < j).card := by
  unfold rank
  congr 1
  ext i
  simp only [Finset.mem_filter, Finset.mem_univ, true_and, Before, classKey, if_neg h]
  by_cases hi : P i <;> simp [hi]

/-- A member of the second class is preceded by the whole first class and the lesser members of its own. -/
theorem rank_class_of {j : Fin n} (h : P j) :
    rank (classKey P) j = (Finset.univ.filter fun i => P i ∧ i < j).card + (Finset.univ.filter fun i => ¬ P i).card := by
  unfold rank
  rw [← Finset.card_union_of_disjoint]
  · congr 1
    ext i
    simp only [Finset.mem_filter, Finset.mem_univ, true_and, Before, classKey, if_pos h, Finset.mem_union]
    by_cases hi : P i <;> simp [hi]
  · rw [Finset.disjoint_filter]
    rintro i - ⟨hi, -⟩ hi'
    exact hi' hi

end Cert.Order

end
-- ==== Proof.Head.lean ====
/-
  One head's value: which channels are outliers, the order that puts the others first, and each row's entries after
  its two groups' round trips, back at the channels they came from. Both programs compute this.
-/
module

public import proofs.«01_k».proof.Proof.Quant
public import proofs.«01_k».proof.Proof.Order

@[expose] public section

noncomputable section

namespace Cert.Head

open Idealize.ShloMosaic

/-- A channel's sum of squares over the rows. -/
def energy (X : Fin 4096 → Fin 128 → EReal) (t : Fin 128) : EReal := ∑ n, X n t * X n t

theorem energy_nonneg (X : Fin 4096 → Fin 128 → EReal) (t : Fin 128) : 0 ≤ energy X t :=
  Finset.sum_nonneg fun n _ => by
    rcases le_total 0 (X n t) with h | h
    · exact mul_nonneg h h
    · have e : X n t * X n t = -X n t * -X n t := (neg_mul_neg _ _).symm
      rw [e]
      exact mul_nonneg (EReal.neg_nonneg.mpr h) (EReal.neg_nonneg.mpr h)

/-- The channels by their sums of squares, the greatest first. -/
def byEnergy (X : Fin 4096 → Fin 128 → EReal) (t : Fin 128) : ERealᵒᵈ := OrderDual.toDual (energy X t)

/-- The outliers: the 32 channels of the greatest sums of squares. -/
def isOut (X : Fin 4096 → Fin 128 → EReal) (t : Fin 128) : Prop := Order.rank (byEnergy X) t < 32

instance (X : Fin 4096 → Fin 128 → EReal) : DecidablePred (isOut X) := fun t => by unfold isOut; infer_instance

theorem card_isOut (X : Fin 4096 → Fin 128 → EReal) : (Finset.univ.filter fun i => isOut X i).card = 32 :=
  Order.card_rank_lt (byEnergy X) (by decide)

/-- The channel at each position once the outliers have been moved behind the others. -/
def order (X : Fin 4096 → Fin 128 → EReal) : Fin 128 → Fin 128 := Order.sorted (Order.classKey (isOut X))

/-- Each channel's position there. -/
def place (X : Fin 4096 → Fin 128 → EReal) : Fin 128 → Fin 128 := Order.pos (Order.classKey (isOut X))

/-- Two groups' entries as one row. -/
def byGroup (f : Fin 96 → EReal) (g : Fin 32 → EReal) (t : Fin 128) : EReal :=
  if h : (t : ℕ) < 96 then f ⟨t, h⟩ else g ⟨t - 96, by omega⟩

/-- The second stage's factor for a group of 96 and of 32 channels. -/
def kReg : EReal := Ideal.div (Ideal.ofBits .f32 0x3FA06C99#32) (Ideal.ofBits .f32 0x42C00000#32)
def kOut : EReal := Ideal.div (Ideal.ofBits .f32 0x3FA06C99#32) (Ideal.ofBits .f32 0x42000000#32)

/-- The head's value at a row and a channel. -/
def value (X : Fin 4096 → Fin 128 → EReal) (Rr Sr : Fin 96 → Fin 96 → EReal) (Ro So : Fin 32 → Fin 32 → EReal)
    (n : Fin 4096) (j : Fin 128) : EReal :=
  byGroup (Row.trip kReg Row.quantReg (fun i => X n (order X (Row.reg i))) Rr Sr)
    (Row.trip kOut Row.quantOut (fun i => X n (order X (Row.out i))) Ro So) (place X j)

end Cert.Head

end
-- ==== Proof.RefOrder.lean ====
/-
  The reference's channel order read at an index, and the reference's result as each head's value.
-/
module

public import proofs.«01_k».proof.Proof.RefStages
public import proofs.«01_k».proof.Proof.Head

@[expose] public section

set_option maxRecDepth 16384

noncomputable section

namespace Cert.RefOrder

open Cert.ReferenceIdeal Cert.ReferenceIdeal.Gen Cert.RefRun Idealize.ShloMosaic Cert.RefStages

/-- One head's rows. -/
abbrev head (x : (⟨4, ![2, 16, 4096, 128]⟩ : Shape).Idx → EReal) (b : Fin 2) (h : Fin 16) (n : Fin 4096) (t : Fin 128) : EReal :=
  x (ix4 b h n t)

/-! ## Sorting along the last of three axes -/

theorem along_last {K : ℕ} (b : Fin 2) (h : Fin 16) (j i : Fin K) :
    (ix3 b h j : (⟨3, ![2, 16, K]⟩ : Shape).Idx).along 2 i = ix3 b h i := by
  funext c
  fin_cases c <;> rfl

theorem sort_at {K : ℕ} {α : Type} (cmp : α → α → BitVec 1) (x : (⟨3, ![2, 16, K]⟩ : Shape).Idx → α) (b : Fin 2) (h : Fin 16)
    (j : Fin K) :
    Host.sort ⟨3, ![2, 16, K]⟩ 2 cmp x (ix3 b h j)
      = x (ix3 b h (sortedFrom (fun k k' => cmp (x (ix3 b h k)) (x (ix3 b h k')) == 1#1) j)) := by
  unfold Host.sort
  rw [dif_pos (show 2 < 3 by decide)]
  show x ((ix3 b h j : (⟨3, ![2, 16, K]⟩ : Shape).Idx).along 2 (sortedFrom (fun k k' : Fin K =>
    cmp (x ((ix3 b h j : (⟨3, ![2, 16, K]⟩ : Shape).Idx).along 2 k)) (x ((ix3 b h j : (⟨3, ![2, 16, K]⟩ : Shape).Idx).along 2 k'))
      == 1#1) j)) = _
  simp only [along_last]
  exact congrArg x (along_last b h j _)

theorem sort2_at {K : ℕ} {α β : Type} (cmp : α × β → α × β → BitVec 1) (x : (⟨3, ![2, 16, K]⟩ : Shape).Idx → α)
    (y : (⟨3, ![2, 16, K]⟩ : Shape).Idx → β) (b : Fin 2) (h : Fin 16) (j : Fin K) :
    (Host.sort2 ⟨3, ![2, 16, K]⟩ 2 cmp x y).2 (ix3 b h j)
      = y (ix3 b h (sortedFrom (fun k k' => cmp (x (ix3 b h k), y (ix3 b h k)) (x (ix3 b h k'), y (ix3 b h k')) == 1#1) j)) := by
  unfold Host.sort2
  rw [dif_pos (show 2 < 3 by decide)]
  show y ((ix3 b h j : (⟨3, ![2, 16, K]⟩ : Shape).Idx).along 2 (sortedFrom (fun k k' : Fin K =>
    cmp (x ((ix3 b h j : (⟨3, ![2, 16, K]⟩ : Shape).Idx).along 2 k), y ((ix3 b h j : (⟨3, ![2, 16, K]⟩ : Shape).Idx).along 2 k))
      (x ((ix3 b h j : (⟨3, ![2, 16, K]⟩ : Shape).Idx).along 2 k'), y ((ix3 b h j : (⟨3, ![2, 16, K]⟩ : Shape).Idx).along 2 k'))
      == 1#1) j)) = _
  simp only [along_last]
  exact congrArg y (along_last b h j _)

theorem slice_at (y : (⟨3, ![2, 16, 128]⟩ : Shape).Idx → BitVec 32) (hs : S2x16x128.Slices (fun _ => 0) S2x16x32) (b : Fin 2)
    (h : Fin 16) (j : Fin 32) : extractStridedSlice S2x16x32 (fun _ => 0) y hs (ix3 b h j) = y (ix3 b h (⟨j, by omega⟩ : Fin 128)) := by
  refine congrArg y (funext fun c => ?_)
  fin_cases c <;> exact Fin.ext (Nat.zero_add _)

theorem iota_at {K : ℕ} (b : Fin 2) (h : Fin 16) (j : Fin K) :
    iotaInDim ⟨3, ![2, 16, K]⟩ 32 2 (ix3 b h j) = BitVec.ofNat 32 j := rfl

theorem topK_idx {α : Type} (gt : α → α → BitVec 1) (v : (⟨3, ![2, 16, 128]⟩ : Shape).Idx → α)
    (hs : S2x16x128.Slices (fun _ => 0) S2x16x32) (b : Fin 2) (h : Fin 16) (j : Fin 32) :
    (Host.topK S2x16x32 2 gt v hs).2 (ix3 b h j)
      = BitVec.ofNat 32 (sortedFrom (fun k k' : Fin 128 => gt (v (ix3 b h k)) (v (ix3 b h k')) == 1#1) ⟨j, by omega⟩) := by
  unfold Host.topK
  show extractStridedSlice S2x16x32 (fun _ => 0) (Host.sort2 S2x16x128 2 (fun l r => gt l.1 r.1) v (iotaInDim S2x16x128 32 2)).2 hs
    (ix3 b h j) = _
  rw [slice_at]
  exact (sort2_at (fun l r => gt l.1 r.1) v (iotaInDim S2x16x128 32 2) b h _).trans (iota_at b h _)

theorem ofBool_beq (p : Prop) [Decidable p] : (BitVec.ofBool (decide p) == 1#1) = decide p := by
  by_cases h : p <;> simp [h]

theorem slt_beq (a c : BitVec 32) : (IntOp.cmpi .slt a c == 1#1) = decide (a.toInt < c.toInt) := by
  show (BitVec.ofBool (a.slt c) == 1#1) = _
  rw [BitVec.slt_eq_decide]
  exact ofBool_beq _

theorem orderOf_at (k : T Ideal S2x16x128 .i32) (b : Fin 2) (h : Fin 16) (j : Fin 128) :
    RefRun.orderOf (F := Ideal) k (ix3 b h j)
      = BitVec.ofNat 32 (Order.sorted (fun i => (k (ix3 b h i)).toInt) j) := by
  refine (sort2_at comparator_i32_i32_d2 k (iotaInDim S2x16x128 32 2) b h j).trans ?_
  rw [iota_at]
  have e : (fun i i' : Fin 128 => comparator_i32_i32_d2 (k (ix3 b h i), iotaInDim S2x16x128 32 2 (ix3 b h i))
      (k (ix3 b h i'), iotaInDim S2x16x128 32 2 (ix3 b h i')) == 1#1) = fun i i' => decide ((k (ix3 b h i)).toInt < (k (ix3 b h i')).toInt) :=
    funext fun i => funext fun i' => slt_beq _ _
  rw [e]

/-! ## The outliers -/

theorem sqrt_lt {a c : EReal} (ha : 0 ≤ a) (hc : 0 ≤ c) : Ideal.sqrt a < Ideal.sqrt c ↔ a < c := by
  induction a using EReal.rec with
  | bot => exact absurd ha (by simp)
  | top => simp [Ideal.sqrt_top]
  | coe a =>
    have ha' : 0 ≤ a := EReal.coe_nonneg.mp ha
    induction c using EReal.rec with
    | bot => exact absurd hc (by simp)
    | top => simp [Ideal.sqrt_top, Ideal.sqrt_coe, ha'.not_gt, EReal.coe_lt_top]
    | coe c =>
      have hc' : 0 ≤ c := EReal.coe_nonneg.mp hc
      rw [Ideal.sqrt_coe, Ideal.sqrt_coe, if_neg ha'.not_gt, if_neg hc'.not_gt, EReal.coe_lt_coe_iff, EReal.coe_lt_coe_iff]
      exact Real.sqrt_lt_sqrt_iff ha'

theorem channelNorms_at (x : T Ideal S2x16x4096x128 .f32) (b : Fin 2) (h : Fin 16) (j : Fin 128) :
    channelNorms x (ix3 b h j) = Ideal.sqrt (Head.energy (head x b h) j) := by
  pointwise [channelNorms]
  rfl

theorem topK_at (x : T Ideal S2x16x4096x128 .f32) (b : Fin 2) (h : Fin 16) (j : Fin 32) :
    (Host.topK S2x16x32 2 (FloatOps.cmpfTotal (F := Ideal) (φ := .f32) .gt) (channelNorms x) sliceFits_S2x16x128_S2x16x32).2 (ix3 b h j)
      = BitVec.ofNat 32 (Order.sorted (Head.byEnergy (head x b h)) ⟨j, by omega⟩) := by
  rw [topK_idx]
  have e : (fun i i' : Fin 128 => FloatOps.cmpfTotal (F := Ideal) (φ := .f32) .gt (channelNorms x (ix3 b h i)) (channelNorms x (ix3 b h i')) == 1#1)
      = fun i i' => decide (Head.byEnergy (head x b h) i < Head.byEnergy (head x b h) i') := by
    funext i i'
    show (BitVec.ofBool (decide (channelNorms x (ix3 b h i') < channelNorms x (ix3 b h i))) == 1#1) = _
    rw [ofBool_beq, channelNorms_at, channelNorms_at, decide_eq_decide, sqrt_lt (Head.energy_nonneg _ _) (Head.energy_nonneg _ _)]
    exact Iff.rfl
  rw [e]

/-- Sorting leaves the same entries. -/
theorem sort_mem (y : (⟨3, ![2, 16, 32]⟩ : Shape).Idx → BitVec 32) (b : Fin 2) (h : Fin 16) (v : BitVec 32) :
    (∃ k : Fin 32, v = Host.sort S2x16x32 2 comparator_i32_d2 y (ix3 b h k)) ↔ ∃ k : Fin 32, v = y (ix3 b h k) := by
  have e : (fun i i' : Fin 32 => comparator_i32_d2 (y (ix3 b h i)) (y (ix3 b h i')) == 1#1)
      = fun i i' => decide ((y (ix3 b h i)).toInt < (y (ix3 b h i')).toInt) := funext fun i => funext fun i' => slt_beq _ _
  have hs : ∀ k : Fin 32, Host.sort S2x16x32 2 comparator_i32_d2 y (ix3 b h k)
      = y (ix3 b h (Order.sorted (fun i => (y (ix3 b h i)).toInt) k)) := fun k => by
    refine (sort_at comparator_i32_d2 y b h k).trans ?_
    rw [e]
  constructor
  · rintro ⟨k, hk⟩
    exact ⟨_, hk.trans (hs k)⟩
  · rintro ⟨k, hk⟩
    refine ⟨Order.pos (fun i => (y (ix3 b h i)).toInt) k, hk.trans ?_⟩
    rw [hs, Order.sorted_pos]

theorem ofNat_inj {i i' : Fin 128} (g : BitVec.ofNat 32 i = BitVec.ofNat 32 i') : i = i' := by
  have := congrArg BitVec.toNat g
  simp only [BitVec.toNat_ofNat] at this
  omega

/-- The outliers' indices are the channels of rank below 32. -/
theorem outIdx_mem (x : T Ideal S2x16x4096x128 .f32) (b : Fin 2) (h : Fin 16) (j : Fin 128) :
    (∃ k : Fin 32, BitVec.ofNat 32 j = outIdx (channelNorms x) (ix3 b h k)) ↔ Head.isOut (head x b h) j := by
  unfold outIdx
  refine (sort_mem _ b h _).trans ?_
  simp only [topK_at]
  constructor
  · rintro ⟨k, hk⟩
    rw [ofNat_inj hk]
    show Order.rank _ _ < 32
    rw [Order.rank_sorted]
    exact k.isLt
  · intro hj
    refine ⟨⟨Order.rank (Head.byEnergy (head x b h)) j, hj⟩, ?_⟩
    exact congrArg (fun k : Fin 128 => BitVec.ofNat 32 k) (Order.sorted_pos (Head.byEnergy (head x b h)) j).symm

theorem fold_ori {ι : Type} (s : Finset ι) (f : ι → BitVec 1) : Finset.fold IntOp.ori 0#1 f s = 1#1 ↔ ∃ i ∈ s, f i = 1#1 := by
  classical
  induction s using Finset.induction_on with
  | empty => simp
  | insert a s ha ih =>
    rw [Finset.fold_insert ha, Finset.exists_mem_insert, ← ih]
    generalize f a = u
    generalize Finset.fold IntOp.ori 0#1 f s = v
    revert u v
    decide

theorem isAmong_at (x : T Ideal S2x16x4096x128 .f32) (b : Fin 2) (h : Fin 16) (j : Fin 128) :
    (isAmong (F := Ideal) (outIdx (channelNorms x)) (ix3 b h j)).toInt = Order.classKey (Head.isOut (head x b h)) j := by
  pointwise [isAmong]
  generalize hf : (Finset.fold IntOp.ori (0#1) (fun k => IntOp.cmpi CmpIPredicate.eq (BitVec.ofNat 32 ↑j)
    (outIdx (channelNorms x) (ix3 b h k))) Finset.univ) = w
  have hw : w = 1#1 ↔ Head.isOut (head x b h) j := by
    rw [← hf, fold_ori, ← outIdx_mem]
    refine exists_congr fun k => ?_
    simp only [Finset.mem_univ, true_and]
    show BitVec.ofBool (_ == _) = 1#1 ↔ _
    rw [← beq_iff_eq (a := BitVec.ofNat 32 ↑j)]
    generalize (BitVec.ofNat 32 ↑j == _) = c
    revert c
    decide
  unfold Order.classKey
  split
  · next g => rw [hw.mpr g]; decide
  · next g =>
    have : w = 0#1 := by
      have g' : ¬ w = 1#1 := fun e => g (hw.mp e)
      clear hw hf
      revert w
      decide
    rw [this]
    decide

theorem perm_at (x : T Ideal S2x16x4096x128 .f32) (b : Fin 2) (h : Fin 16) (j : Fin 128) :
    perm x (ix3 b h j) = BitVec.ofNat 32 (Head.order (head x b h) j) := by
  unfold perm
  rw [orderOf_at, show (fun i => (isAmong (F := Ideal) (outIdx (channelNorms x)) (ix3 b h i)).toInt) = Order.classKey (Head.isOut (head x b h))
    from funext fun i => isAmong_at x b h i]
  rfl

theorem toInt_small (i : Fin 128) : (BitVec.ofNat 32 i).toInt = (i : ℕ) := by
  revert i
  decide

theorem unperm_at (x : T Ideal S2x16x4096x128 .f32) (b : Fin 2) (h : Fin 16) (j : Fin 128) :
    RefRun.orderOf (F := Ideal) (perm x) (ix3 b h j) = BitVec.ofNat 32 (Head.place (head x b h) j) := by
  rw [orderOf_at]
  refine congrArg (fun k : Fin 128 => BitVec.ofNat 32 k) ?_
  simp only [perm_at, toInt_small]
  let p := (Order.posEquiv (Order.classKey (Head.isOut (head x b h)))).symm
  have e : Order.rank (fun i => ((p i : ℕ) : ℤ)) (Order.sorted (fun i => ((p i : ℕ) : ℤ)) j) = j := Order.rank_sorted _ _
  rw [Order.rank_of_bijective] at e
  exact (Equiv.symm_apply_eq _).mp (Fin.ext e)

/-! ## Entries at an index -/

theorem gather_at (a : T Ideal S2x16x4096x128 .f32) (i : T Ideal S2x16x4096x128x1 .i32) (b : Fin 2) (h : Fin 16) (n : Fin 4096)
    (j k : Fin 128) (hk : i (ix5 b h n j 0) = BitVec.ofNat 32 k) :
    Host.gather gather_S2x16x4096x128_S2x16x4096x128x1_S2x16x4096x128_n_3_012_012_3_4_1111 a i (ix4 b h n j) = a (ix4 b h n k) := by
  refine congrArg a (funext fun c => Fin.ext ?_)
  match c with
  | ⟨0, _⟩ => exact (Nat.add_zero _).trans (Nat.zero_add _)
  | ⟨1, _⟩ => exact (Nat.add_zero _).trans (Nat.zero_add _)
  | ⟨2, _⟩ => exact (Nat.add_zero _).trans (Nat.zero_add _)
  | ⟨3, _⟩ =>
    show min (i (GatherDims.siIdx gather_S2x16x4096x128_S2x16x4096x128x1_S2x16x4096x128_n_3_012_012_3_4_1111 (ix4 b h n j)
      ⟨0, by decide⟩)).toInt.toNat (128 - 1) + 0 + 0 = k.val
    have e : GatherDims.siIdx gather_S2x16x4096x128_S2x16x4096x128x1_S2x16x4096x128_n_3_012_012_3_4_1111 (ix4 b h n j)
        ⟨0, by decide⟩ = ix5 b h n j 0 := by
      funext c
      apply Fin.ext
      fin_cases c <;> rfl
    rw [e, hk]
    clear hk
    revert k; decide

theorem take_at (a : T Ideal S2x16x4096x128 .f32) (p : T Ideal S2x16x128 .i32) (b : Fin 2) (h : Fin 16) (n : Fin 4096)
    (j k : Fin 128) (hk : p (ix3 b h j) = BitVec.ofNat 32 k) : takeChannels a p (ix4 b h n j) = a (ix4 b h n k) := by
  have hw : wrapIdx (F := Ideal) p (ix5 b h n j 0) = BitVec.ofNat 32 k := by
    pointwise [wrapIdx]
    rw [hk]
    clear hk
    revert k; decide
  have hc : IntOp.andi (IntOp.cmpi .sge (BitVec.ofNat 32 k) 0#32) (IntOp.cmpi .sle (BitVec.ofNat 32 k) 127#32) = 1#1 := by
    clear hk hw
    revert k; decide
  unfold takeChannels
  generalize wrapIdx (F := Ideal) p = i at hw
  unfold takeWrapped
  pointwise []
  rw [fold_andi_one, gather_at a _ b h n j k hw, hw, hc]
  rfl

theorem concat_at (f : T Ideal S2x16x4096x96 .f32) (g : T Ideal S2x16x4096x32 .f32) (b : Fin 2) (h : Fin 16) (n : Fin 4096)
    (t : Fin 128) : concatGroups f g (ix4 b h n t) = Head.byGroup (row f b h n) (row g b h n) t := by
  pointwise [concatGroups]
  rfl

theorem firstGroup_at (x : T Ideal S2x16x4096x128 .f32) (b : Fin 2) (h : Fin 16) (n : Fin 4096) (i : Fin 96) :
    firstGroup (takeChannels x (perm x)) (ix4 b h n i) = x (ix4 b h n (Head.order (head x b h) (Row.reg i))) := by
  rw [← take_at x (perm x) b h n (Row.reg i) _ (perm_at x b h _)]
  generalize takeChannels x (perm x) = z
  pointwise [firstGroup]
  rfl

theorem secondGroup_at (x : T Ideal S2x16x4096x128 .f32) (b : Fin 2) (h : Fin 16) (n : Fin 4096) (i : Fin 32) :
    secondGroup (takeChannels x (perm x)) (ix4 b h n i) = x (ix4 b h n (Head.order (head x b h) (Row.out i))) := by
  rw [← take_at x (perm x) b h n (Row.out i) _ (perm_at x b h _)]
  generalize takeChannels x (perm x) = z
  pointwise [secondGroup]
  rfl

/-- The reference's result is each head's value, where the rotations are real. -/
theorem result_at (x : T Ideal S2x16x4096x128 .f32) (rr sr : T Ideal S96x96 .f32) (ro so : T Ideal S32x32 .f32)
    (hr : ∀ i j, ∃ v : ℝ, mat rr i j = v) (ho : ∀ i j, ∃ v : ℝ, mat ro i j = v)
    (b : Fin 2) (h : Fin 16) (n : Fin 4096) (j : Fin 128) :
    result x rr sr ro so (ix4 b h n j) = Head.value (head x b h) (mat rr) (mat sr) (mat ro) (mat so) n j := by
  unfold result
  rw [take_at _ _ b h n j _ (unperm_at x b h j), concat_at]
  have e1 : row (roundTrip96 levels96 (firstGroup (takeChannels x (perm x))) rr sr) b h n
      = Row.trip Head.kReg Row.quantReg (fun i => head x b h n (Head.order (head x b h) (Row.reg i))) (mat rr) (mat sr) := by
    funext i
    refine (roundTrip96_at _ rr sr hr b h n i).trans ?_
    rw [show row (firstGroup (takeChannels x (perm x))) b h n = fun i => head x b h n (Head.order (head x b h) (Row.reg i)) from
      funext fun i' => firstGroup_at x b h n i']
    rfl
  have e2 : row (roundTrip32 levels32 (secondGroup (takeChannels x (perm x))) ro so) b h n
      = Row.trip Head.kOut Row.quantOut (fun i => head x b h n (Head.order (head x b h) (Row.out i))) (mat ro) (mat so) := by
    funext i
    refine (roundTrip32_at _ ro so ho b h n i).trans ?_
    rw [show row (secondGroup (takeChannels x (perm x))) b h n = fun i => head x b h n (Head.order (head x b h) (Row.out i)) from
      funext fun i' => secondGroup_at x b h n i']
    rfl
  rw [e1, e2]
  rfl

end Cert.RefOrder

end
-- ==== Proof.KerOrder.lean ====
/-
  The kernel's channel order. The kernel counts, in numbers, the channels that come before each channel; the counts are
  the ranks, so its matrix of zeros and ones moves each channel to its place.
-/
module

public import proofs.«01_k».proof.Proof.Gen.KernelIdeal.Frame
public import proofs.«01_k».proof.Proof.Head
public import Idealize.ShloMosaic.Lib.Pointwise

@[expose] public section

set_option maxRecDepth 16384

noncomputable section

namespace Cert.KerOrder

open Cert.KernelIdeal Cert.KernelIdeal.Gen Idealize.ShloMosaic

/-- One where a statement holds, zero elsewhere. -/
def ind (p : Prop) [Decidable p] : EReal := if p then 1 else 0

theorem ind_true {p : Prop} [Decidable p] (h : p) : ind p = 1 := if_pos h
theorem ind_false {p : Prop} [Decidable p] (h : ¬ p) : ind p = 0 := if_neg h

theorem ind_bit (w : BitVec 1) : FloatOps.sitofp (F := Ideal) .f32 (BitVec.setWidth 32 w) = ind (w = 1#1) := by
  have h : w = 0#1 ∨ w = 1#1 := by
    revert w
    decide
  rcases h with rfl | rfl
  · show (((BitVec.setWidth 32 0#1).toInt : ℝ) : EReal) = _
    rw [show (BitVec.setWidth 32 0#1).toInt = 0 by decide, ind, if_neg (by decide)]
    simp
  · show (((BitVec.setWidth 32 1#1).toInt : ℝ) : EReal) = _
    rw [show (BitVec.setWidth 32 1#1).toInt = 1 by decide, ind, if_pos rfl]
    simp

theorem ofBool_eq_one (p : Prop) [Decidable p] : BitVec.ofBool (decide p) = 1#1 ↔ p := by
  by_cases h : p <;> simp [h]

theorem ind_congr {p q : Prop} [Decidable p] [Decidable q] (h : p ↔ q) : ind p = ind q := by
  unfold ind
  by_cases hp : p
  · rw [if_pos hp, if_pos (h.mp hp)]
  · rw [if_neg hp, if_neg fun g => hp (h.mpr g)]

theorem slt_iff (i j : Fin 128) : IntOp.cmpi .slt (BitVec.ofNat 32 i) (BitVec.ofNat 32 j) = 1#1 ↔ i < j := by
  have t : ∀ k : Fin 128, (BitVec.ofNat 32 k).toInt = (k : ℕ) := by decide
  show BitVec.ofBool (BitVec.slt _ _) = 1#1 ↔ _
  rw [BitVec.slt_eq_decide, t, t, ofBool_eq_one]
  exact Nat.cast_lt

theorem slt_96 (i : Fin 128) : IntOp.cmpi .slt (BitVec.ofNat 32 i) 96#32 = 1#1 ↔ (i : ℕ) < 96 := by
  revert i
  decide

theorem andi_iff (u v : BitVec 1) : IntOp.andi u v = 1#1 ↔ u = 1#1 ∧ v = 1#1 := by
  revert u v
  decide

theorem one_sub_ind (p : Prop) [Decidable p] : 1 - ind p = ind (¬ p) := by
  unfold ind
  by_cases h : p
  · rw [if_pos h, if_neg (not_not.mpr h), ← EReal.coe_one, ← EReal.coe_sub]; simp
  · rw [if_neg h, if_pos h, sub_zero]

theorem ind_mul_ind (p q : Prop) [Decidable p] [Decidable q] : ind p * ind q = ind (p ∧ q) := by
  unfold ind
  by_cases hp : p <;> by_cases hq : q <;> simp [hp, hq]

theorem sum_ind {n : ℕ} (p : Fin n → Prop) [DecidablePred p] :
    ∑ i, ind (p i) = (((Finset.univ.filter p).card : ℝ) : EReal) := by
  have e : ∀ i, ind (p i) = (((if p i then 1 else 0 : ℝ)) : EReal) := fun i => by
    unfold ind
    split <;> simp
  simp only [e]
  rw [← Row.coe_sum]
  congr 1
  simp

theorem w_32 : Ideal.ofBits .f32 0x42000000#32 = ((32 : ℝ) : EReal) := by
  simp [Ideal.ofBits, Ideal.ieee, -EReal.coe_mul]; norm_num
theorem w_96 : Ideal.ofBits .f32 0x42C00000#32 = ((96 : ℝ) : EReal) := by
  simp [Ideal.ofBits, Ideal.ieee, -EReal.coe_mul]; norm_num

/-- One block's rows. -/
abbrev rows (x : Vec Ideal S1x4096x128 .f32) (n : Fin 4096) (t : Fin 128) : EReal := x (ix3 0 n t)

theorem isOut_at (x : Vec Ideal S1x4096x128 .f32) (t : Fin 128) :
    k0_pay6 x (ix2 0 t) = BitVec.ofBool (decide (Head.isOut (rows x) t)) := by
  pointwise [k0_pay6, k0_pay2]
  congr 1
  rw [decide_eq_decide]
  simp only [ind_bit, ofBool_eq_one, andi_iff, slt_iff]
  have e : ∀ i : Fin 128, ind (Head.energy (rows x) t < Head.energy (rows x) i)
      + ind (Head.energy (rows x) i = Head.energy (rows x) t ∧ i < t) = ind (Order.Before (Head.byEnergy (rows x)) i t) := fun i => by
    rcases lt_trichotomy (Head.energy (rows x) t) (Head.energy (rows x) i) with h | h | h
    · have b : Order.Before (Head.byEnergy (rows x)) i t := .inl h
      simp only [ind, if_pos h, if_neg (show ¬ (Head.energy (rows x) i = Head.energy (rows x) t ∧ i < t) from fun g => h.ne' g.1),
        if_pos b, add_zero]
    · by_cases hi : i < t
      · have b : Order.Before (Head.byEnergy (rows x)) i t := .inr ⟨congrArg OrderDual.toDual h.symm, hi⟩
        simp only [ind, if_neg h.not_lt, if_pos (And.intro h.symm hi), if_pos b, zero_add]
      · have b : ¬ Order.Before (Head.byEnergy (rows x)) i t := by
          rintro (g | g)
          · exact absurd h (ne_of_lt g)
          · exact hi g.2
        simp only [ind, if_neg h.not_lt, if_neg (show ¬ (Head.energy (rows x) i = Head.energy (rows x) t ∧ i < t) from fun g => hi g.2),
          if_neg b, zero_add]
    · have b : ¬ Order.Before (Head.byEnergy (rows x)) i t := by
        rintro (g | g)
        · exact lt_asymm h g
        · exact h.ne (OrderDual.toDual.injective g.1)
      simp only [ind, if_neg h.not_gt, if_neg (show ¬ (Head.energy (rows x) i = Head.energy (rows x) t ∧ i < t) from fun g => h.ne g.1),
        if_neg b, zero_add]
  have s := (Finset.sum_congr rfl fun i _ => e i).trans (sum_ind fun i => Order.Before (Head.byEnergy (rows x)) i t)
  have w : Ideal.ofBits .f32 1107296256#32 = ((32 : ℝ) : EReal) := w_32
  refine Iff.trans (b := ((((Finset.univ.filter fun i => Order.Before (Head.byEnergy (rows x)) i t).card : ℝ) : EReal) < ((32 : ℝ) : EReal))) ?_ ?_
  · rw [← s, ← w]
    exact Iff.rfl
  · rw [EReal.coe_lt_coe_iff]
    exact Nat.cast_lt (α := ℝ) (n := 32)

theorem card_not (X : Fin 4096 → Fin 128 → EReal) : (Finset.univ.filter fun i => ¬ Head.isOut X i).card = 96 := by
  have h := Finset.card_filter_add_card_filter_not (s := (Finset.univ : Finset (Fin 128))) (Head.isOut X)
  rw [Head.card_isOut, Finset.card_univ, Fintype.card_fin] at h
  omega

theorem lower_at (i t : Fin 128) : k0_pay8 (F := Ideal) (ix2 i t) = ind (i < t) := by
  pointwise [k0_pay8]
  rw [ind_bit]
  exact ind_congr (slt_iff i t)

theorem outCol_at (x : Vec Ideal S1x4096x128 .f32) (i t : Fin 128) : k0_pay10 x (ix2 i t) = ind (Head.isOut (rows x) i) := by
  pointwise [k0_pay10, k0_pay7]
  rw [ind_bit, isOut_at]
  exact ind_congr (ofBool_eq_one _)

theorem regRank_at (x : Vec Ideal S1x4096x128 .f32) (t : Fin 128) :
    k0_pay9 x (ix2 0 t) = (((Finset.univ.filter fun i => ¬ Head.isOut (rows x) i ∧ i < t).card : ℝ) : EReal) := by
  rw [← sum_ind]
  pointwise [k0_pay9, k0_pay7]
  refine Finset.sum_congr rfl fun i _ => ?_
  rw [lower_at, ind_bit, isOut_at, ind_congr (ofBool_eq_one _), one_sub_ind, ind_mul_ind]

/-- The matrix that moves each channel to its place. -/
theorem move_at (x : Vec Ideal S1x4096x128 .f32) (i t : Fin 128) :
    k0_pay11 (F := Ideal) (iota .tc S128x128 32 [1] iota_S128x128_d1_w32) (k0_pay6 x) (k0_pay8 (F := Ideal)) (k0_pay9 x) (k0_pay10 x) (ix2 i t)
      = ind (Head.place (rows x) i = t) := by
  pointwise [k0_pay11]
  rw [ind_bit]
  refine ind_congr ((ofBool_eq_one _).trans ?_)
  rw [isOut_at, regRank_at]
  simp only [outCol_at, lower_at, ind_mul_ind]
  rw [sum_ind fun k => Head.isOut (rows x) k ∧ k < i]
  have ht : FloatOps.sitofp (F := Ideal) .f32 (BitVec.ofNat 32 t) = (((t : ℕ) : ℝ) : EReal) := by
    show (((BitVec.ofNat 32 (t : ℕ)).toInt : ℝ) : EReal) = _
    have e : ∀ k : Fin 128, (BitVec.ofNat 32 k).toInt = (k : ℕ) := by decide
    rw [e, Int.cast_natCast]
  have w : Ideal.ofBits .f32 1119879168#32 = ((96 : ℝ) : EReal) := w_96
  have hs : Scalar.select (BitVec.ofBool (decide (Head.isOut (rows x) i)))
      ((((Finset.univ.filter fun k => Head.isOut (rows x) k ∧ k < i).card : ℝ) : EReal) + Ideal.ofBits .f32 1119879168#32)
      (((Finset.univ.filter fun k => ¬ Head.isOut (rows x) k ∧ k < i).card : ℝ) : EReal)
      = ((((Head.place (rows x) i : Fin 128) : ℕ) : ℝ) : EReal) := by
    rw [w, ← EReal.coe_add]
    by_cases h : Head.isOut (rows x) i
    · rw [decide_eq_true h]
      show ((_ : ℝ) : EReal) = _
      rw [show ((Head.place (rows x) i : Fin 128) : ℕ) = _ from Order.rank_class_of _ h, card_not]
      push_cast
      rfl
    · rw [decide_eq_false h]
      show ((_ : ℝ) : EReal) = _
      rw [show ((Head.place (rows x) i : Fin 128) : ℕ) = _ from Order.rank_class_of_not _ h]
  refine (Eq.congr hs ht).trans ?_
  rw [EReal.coe_eq_coe_iff, Nat.cast_inj, Fin.ext_iff]

theorem order_place (X : Fin 4096 → Fin 128 → EReal) (i : Fin 128) : Head.order X (Head.place X i) = i := Order.sorted_pos _ _
theorem place_order (X : Fin 4096 → Fin 128 → EReal) (t : Fin 128) : Head.place X (Head.order X t) = t := Order.pos_sorted _ _

/-- The moved rows. -/
theorem moved_at (x : Vec Ideal S1x4096x128 .f32) (n : Fin 4096) (t : Fin 128) :
    k0_pay12 (F := Ideal) (k0_pay2 x) (iota .tc S128x128 32 [1] iota_S128x128_d1_w32) (k0_pay6 x) (k0_pay8 (F := Ideal)) (k0_pay9 x)
      (k0_pay10 x) (ix2 n t) = rows x n (Head.order (rows x) t) := by
  have h2 : ∀ i, k0_pay2 x (ix2 n i) = rows x n i := fun i => by
    pointwise [k0_pay2]
  generalize hv : k0_pay2 x = v at h2
  pointwise [k0_pay12]
  refine (Finset.sum_congr rfl fun i _ => congrArg₂ (· * ·) (h2 i) (move_at x i t)).trans ?_
  show ∑ i, rows x n i * ind (Head.place (rows x) i = t) = _
  rw [Finset.sum_eq_single (Head.order (rows x) t)]
  · rw [ind_true (place_order _ _), mul_one]
  · intro i _ hi
    rw [ind_false (fun g => hi (by rw [← g, order_place])), mul_zero]
  · exact fun h => absurd (Finset.mem_univ _) h

end Cert.KerOrder

end
-- ==== Proof.KerRow.lean ====
/-
  The kernel's row. Each value of the kernel's body read at a row, in the row's own terms; the block that the body
  stores holds each head's value.
-/
module

public import proofs.«01_k».proof.Proof.KerOrder

@[expose] public section

set_option maxRecDepth 16384

noncomputable section

namespace Cert.KerRow

open Cert.KernelIdeal Cert.KernelIdeal.Gen Idealize.ShloMosaic Cert.KerOrder

/-- A matrix by its two coordinates. -/
abbrev mat (v : FVec Ideal S128x128 .f32) (i j : Fin 128) : EReal := v (ix2 i j)

theorem mask_at (t : Fin 128) : k0_pay13 (F := Ideal) (ix2 0 t) = ind ((t : ℕ) < 96) := by
  pointwise [k0_pay13]
  rw [ind_bit]
  exact ind_congr (slt_96 t)

theorem rest_at (t : Fin 128) : k0_pay14 (F := Ideal) (ix2 0 t) = ind (¬ (t : ℕ) < 96) := by
  rw [← one_sub_ind, ← mask_at]
  pointwise [k0_pay14]

/-- A choice by a mask and the rest. -/
theorem choose (p : Prop) [Decidable p] (a b : EReal) : ind p * a + ind (¬ p) * b = if p then a else b := by
  by_cases h : p
  · rw [ind_true h, ind_false (not_not.mpr h), if_pos h, one_mul, zero_mul, add_zero]
  · rw [ind_false h, ind_true h, if_neg h, one_mul, zero_mul, zero_add]

section

variable (v1 : FVec Ideal S4096x128 .f32) (v5 : FVec Ideal S128x128 .f32) (v13 : IVec S128x128 32) (v30 : IVec S1x128 1)
  (v37 : FVec Ideal S128x128 .f32) (v42 : FVec Ideal S1x128 .f32) (v44 : FVec Ideal S128x128 .f32) (n : Fin 4096)
  (g : Fin 128 → EReal) (hg : ∀ t, k0_pay12 v1 v13 v30 v37 v42 v44 (ix2 n t) = g t)

include hg

theorem norms_at (t : Fin 128) : k0_pay15 v1 v13 v30 v37 v42 v44 (ix2 n t) = Row.kNorm g 0x322BCC77#32 t := by
  pointwise [k0_pay15]
  simp only [hg, mask_at, rest_at]
  exact choose _ _ _

theorem proj_at (t : Fin 128) : k0_pay16 v1 v5 v13 v30 v37 v42 v44 (ix2 n t) = Row.kProj g (mat v5) t := by
  pointwise [k0_pay16]
  simp only [hg, norms_at v1 v13 v30 v37 v42 v44 n g hg]
  rfl

theorem quant_at (t : Fin 128) : k0_pay17 v1 v5 v13 v30 v37 v42 v44 (ix2 n t) = Row.quantReg (Row.kProj g (mat v5) t) := by
  pointwise [k0_pay17]
  simp only [proj_at v1 v5 v13 v30 v37 v42 v44 n g hg]
  rfl

end

section

variable (v3 v7 : FVec Ideal S128x128 .f32) (v57 v84 v86 v91 : FVec Ideal S4096x128 .f32) (n : Fin 4096)
  (g : Fin 128 → EReal) (B : Fin 128 → Fin 128 → EReal) (h57 : ∀ t, v57 (ix2 n t) = g t)
  (h84 : ∀ t, v84 (ix2 n t) = Row.kNorm g 0x322BCC77#32 t) (h86 : ∀ t, v86 (ix2 n t) = Row.kProj g B t)
  (h91 : ∀ t, v91 (ix2 n t) = Row.quantReg (Row.kProj g B t))

include h84 h86 h91

theorem first_at (t : Fin 128) : k0_pay18 v3 (k0_pay13 (F := Ideal)) (k0_pay14 (F := Ideal)) v84 v86 v91 (ix2 n t)
    = Row.kFirst g (mat v3) B Row.quantReg Row.quantOut t := by
  pointwise [k0_pay18]
  simp only [h84, h86, h91, mask_at, rest_at]
  rw [Row.kFirst]
  congr 1
  refine Finset.sum_congr rfl fun i _ => ?_
  congr 1
  exact choose _ _ _

include h57

theorem resid_at (t : Fin 128) : k0_pay19 v3 v57 (k0_pay13 (F := Ideal)) (k0_pay14 (F := Ideal)) v84 v86 v91 (ix2 n t)
    = Row.kResid g (mat v3) B Row.quantReg Row.quantOut t := by
  pointwise [k0_pay19]
  rw [h57, first_at v3 v84 v86 v91 n g B h84 h86 h91]
  rfl

theorem rnorms_at (t : Fin 128) : k0_pay20 v3 v57 (k0_pay13 (F := Ideal)) (k0_pay14 (F := Ideal)) v84 v86 v91 (ix2 n t)
    = Row.kNorm (Row.kResid g (mat v3) B Row.quantReg Row.quantOut) 0x2EDBE6FF#32 t := by
  pointwise [k0_pay20]
  simp only [resid_at v3 v57 v84 v86 v91 n g B h57 h84 h86 h91, mask_at, rest_at]
  exact choose _ _ _

theorem signs_at (t : Fin 128) : k0_pay21 v3 v7 v57 (k0_pay13 (F := Ideal)) (k0_pay14 (F := Ideal)) v84 v86 v91 (ix2 n t)
    = BitVec.ofBool (decide (0 ≤ Row.kProj2 (mat v7) (Row.kResid g (mat v3) B Row.quantReg Row.quantOut) t)) := by
  pointwise [k0_pay21]
  simp only [resid_at v3 v57 v84 v86 v91 n g B h57 h84 h86 h91, rnorms_at v3 v57 v84 v86 v91 n g B h57 h84 h86 h91]
  rfl

end

theorem w_scale : Ideal.ofBits .f32 0x3FA06C99#32 = ((10513561 / 8388608 : ℝ) : EReal) := by
  simp [Ideal.ofBits, Ideal.ieee, -EReal.coe_mul]; norm_num

theorem div_real (a b : ℝ) (h : b ≠ 0) : Ideal.div (a : EReal) (b : EReal) = ((a / b : ℝ) : EReal) := by
  unfold Ideal.div
  rw [if_neg (by rw [← EReal.coe_zero, EReal.coe_eq_coe_iff]; exact h), ← EReal.coe_inv, ← EReal.coe_mul, div_eq_mul_inv]

theorem k_reg : Named.named (F := Ideal) κ "k_reg" (φ := .f32) 0x3C55E621#32 = Head.kReg := by
  refine (IdealRules.named_const.ideal_named_scalar (v := ((10513561 / 805306368 : ℝ) : EReal)) _ _ _ rfl).trans ?_
  rw [Head.kReg, w_scale, w_96, div_real _ _ (by norm_num), EReal.coe_eq_coe_iff]
  norm_num

theorem k_out : Named.named (F := Ideal) κ "k_out" (φ := .f32) 0x3D206C99#32 = Head.kOut := by
  refine (IdealRules.named_const.ideal_named_scalar (v := ((10513561 / 268435456 : ℝ) : EReal)) _ _ _ rfl).trans ?_
  rw [Head.kOut, w_scale, w_32, div_real _ _ (by norm_num), EReal.coe_eq_coe_iff]
  norm_num

/-- The stored block at an entry: the row at the channel's place. -/
theorem store_at (v7 v56 : FVec Ideal S128x128 .f32) (v111 v132 : FVec Ideal S4096x128 .f32) (v136 : IVec S4096x128 1)
    (n : Fin 4096) (j : Fin 128) (g : Fin 128 → EReal) (A B : Fin 128 → Fin 128 → EReal) (p : Fin 128)
    (h56 : ∀ t, v56 (ix2 j t) = ind (p = t)) (h111 : ∀ t, v111 (ix2 n t) = Row.kFirst g A B Row.quantReg Row.quantOut t)
    (h132 : ∀ t, v132 (ix2 n t) = Row.kNorm (Row.kResid g A B Row.quantReg Row.quantOut) 0x2EDBE6FF#32 t)
    (h136 : ∀ t, v136 (ix2 n t) = BitVec.ofBool (decide (0 ≤ Row.kProj2 (mat v7) (Row.kResid g A B Row.quantReg Row.quantOut) t))) :
    k0_pay1 v7 v56 (k0_pay13 (F := Ideal)) (k0_pay14 (F := Ideal)) v111 v132 v136 (Scalar.ofBits .f32 0x3F800000#32) (ix3 0 n j)
      = Row.kRow g A B (mat v7) Head.kReg Head.kOut Row.quantReg Row.quantOut p := by
  have hs : ∀ q : EReal, Scalar.select (BitVec.ofBool (decide (0 ≤ q))) 1 (Ideal.ofBits .f32 3212836864#32) = Row.sgn q := fun q => by
    unfold Row.sgn
    by_cases h : 0 ≤ q
    · rw [decide_eq_true h, if_pos h]; rfl
    · rw [decide_eq_false h, if_neg h]; rfl
  pointwise [k0_pay1]
  have kr : Named.named (F := Ideal) κ "k_reg" (φ := .f32) 1012262433#32 = Head.kReg := k_reg
  have ko : Named.named (F := Ideal) κ "k_out" (φ := .f32) 1025535129#32 = Head.kOut := k_out
  simp only [h56, h111, h132, h136, hs, mask_at, rest_at, choose, kr, ko]
  rw [Finset.sum_eq_single p]
  · rw [ind_true rfl, mul_one, add_comm]
    rfl
  · intro t _ ht
    rw [ind_false (Ne.symm ht), mul_zero]
  · exact fun h => absurd (Finset.mem_univ _) h

theorem hz2 : (![0, 0] : Fin 2 → Nat) = fun _ => 0 := funext fun a => by fin_cases a <;> rfl
theorem hz3 : (![0, 0, 0] : Fin 3 → Nat) = fun _ => 0 := funext fun a => by fin_cases a <;> rfl

theorem mat_pay3 (x : Vec Ideal S128x128 .f32) : k0_pay3 x = x := by
  unfold k0_pay3
  exact shapeCast_self _ _
theorem mat_pay4 (x : Vec Ideal S128x128 .f32) : k0_pay4 x = x := by
  unfold k0_pay4
  exact shapeCast_self _ _
theorem mat_pay5 (x : Vec Ideal S128x128 .f32) : k0_pay5 x = x := by
  unfold k0_pay5
  exact shapeCast_self _ _

/-- The block that the body stores holds the head's value. -/
theorem block_at (x : Vec Ideal S1x4096x128 .f32) (x1 x2 x3 : Vec Ideal S128x128 .f32)
    {R S : Fin 96 → Fin 96 → EReal} {R' S' : Fin 32 → Fin 32 → EReal}
    (hA : Row.Blocks (mat x1) R R') (hB : Row.Blocks (mat x2) (fun i j => R j i) fun i j => R' j i) (hC : Row.Blocks (mat x3) S S')
    (n : Fin 4096) (j : Fin 128) :
    out0_4 x x1 x2 x3 (ix3 0 n j) = Head.value (rows x) R S R' S' n j := by
  unfold_out out0_4
  rw [View.canon_unit_zero hz3]
  have l0 : View.ld x r0_0 = x := View.ld_unit_zero hz3 _ _
  have l1 : ∀ y : Vec Ideal S128x128 .f32, View.ld y r0_1 = y := fun y => View.ld_unit_zero hz2 _ _
  rw [l0, l1, l1, l1, mat_pay3, mat_pay4, mat_pay5]
  let g : Fin 128 → EReal := fun t => rows x n (Head.order (rows x) t)
  have h57 := moved_at x n
  have h84 := norms_at _ _ _ _ _ _ n g h57
  have h86 := proj_at _ x2 _ _ _ _ _ n g h57
  have h91 := quant_at _ x2 _ _ _ _ _ n g h57
  rw [store_at x3 _ _ _ _ n j g (mat x1) (mat x2) (Head.place (rows x) j) (move_at x j)
    (first_at x1 _ _ _ n g (mat x2) h84 h86 h91) (rnorms_at x1 _ _ _ _ n g (mat x2) h57 h84 h86 h91)
    (signs_at x1 x3 _ _ _ _ n g (mat x2) h57 h84 h86 h91)]
  unfold Head.value Head.byGroup
  by_cases h : ((Head.place (rows x) j : Fin 128) : ℕ) < 96
  · rw [dif_pos h]
    exact (congrArg (Row.kRow g (mat x1) (mat x2) (mat x3) Head.kReg Head.kOut Row.quantReg Row.quantOut) (Row.eq_reg h)).trans
      (Row.kRow_reg hA hB hC ..)
  · rw [dif_neg h]
    exact (congrArg (Row.kRow g (mat x1) (mat x2) (mat x3) Head.kReg Head.kOut Row.quantReg Row.quantOut) (Row.eq_out h)).trans
      (Row.kRow_out hA hB hC ..)

end Cert.KerRow

end
-- ==== Proof.KerHost.lean ====
/-
  What the kernel's host operations prepare: two matrices, one of 96 and one of 32 rows, put on the diagonal of a 128 by
  128 matrix of zeros.
-/
module

public import proofs.«01_k».proof.Proof.Row
public import proofs.«01_k».proof.Proof.Gen.KernelIdeal.Frame
public import Idealize.ShloMosaic.Lib.Routing.OpsOne
public import Idealize.ShloMosaic.Lib.Routing.OpsPair
public import Idealize.ShloMosaic.Lib.Routing.OpsSet

@[expose] public section

set_option maxRecDepth 16384

noncomputable section

namespace Cert.KerHost

open Cert.KernelIdeal Cert.KernelIdeal.Gen Idealize.ShloMosaic.ValueIdx Idealize.ShloMosaic.Routing
open Idealize.ShloMosaic hiding ix1 ix2

/-- Contents of a buffer with the given dimensions and element type. -/
abbrev T (s : Shape) (e : EltTy) : Type := (⟨s, e⟩ : BufTy).Contents (Elt Ideal)

/-- The corner `(n, n)` as a pair of index words. -/
def corner (n : BitVec 32) : IVec S2 32 :=
  concatenate S2 0 [⟨S1, broadcastInDim S1 ![] bcast_S_S1 (constantI S_ 32 n)⟩, ⟨S1, broadcastInDim S1 ![] bcast_S_S1 (constantI S_ 32 n)⟩]
    concatenates_S1_S1_S2_d0

/-- The matrix of zeros. -/
def zeros : T S128x128 .f32 := broadcastInDim S128x128 ![] bcast_S_S128x128 (constant (F := Ideal) S_ .f32 0x00000000#32)

/-- A matrix of 96 rows written at the top left corner. -/
def putReg (x : T S128x128 .f32) (r : T S96x96 .f32) : T S128x128 .f32 :=
  Host.scatter scatter_S128x128_S2_S96x96_01_n_01_0 (fun _ b => b) x (corner 0#32) r

/-- A matrix of 32 rows written at row and column 96. -/
def putOut (x : T S128x128 .f32) (o : T S32x32 .f32) : T S128x128 .f32 :=
  Host.scatter scatter_S128x128_S2_S32x32_01_n_01_0 (fun _ b => b) x (corner 96#32) o

/-- Both on the diagonal. -/
def diagonal (r : T S96x96 .f32) (o : T S32x32 .f32) : T S128x128 .f32 := putOut (putReg zeros r) o

theorem corner_at (n : BitVec 32) (q : Fin 2) : corner n (ix1 q) = n := by
  fin_cases q <;> rfl

theorem zeros_at (a b : Fin 128) : zeros (ix2 a b) = 0 := by
  show Ideal.ofBits .f32 0x00000000#32 = 0
  simp [Ideal.ofBits, Ideal.ieee]

theorem window_reg (i j : Fin 96) (q : Fin 2) :
    scatter_S128x128_S2_S96x96_01_n_01_0.window (ix2 i j) q = (![(i : ℕ), (j : ℕ)] : Fin 2 → ℕ) q := by
  fin_cases q <;> rfl

theorem window_out (i j : Fin 32) (q : Fin 2) :
    scatter_S128x128_S2_S32x32_01_n_01_0.window (ix2 i j) q = (![(i : ℕ), (j : ℕ)] : Fin 2 → ℕ) q := by
  fin_cases q <;> rfl

theorem lands_reg (i j : Fin 96) (a b : Fin 128) :
    scatter_S128x128_S2_S96x96_01_n_01_0.resultIdx? (ix2 i j) (corner 0#32) = some (ix2 a b) ↔ (i : ℕ) = a ∧ (j : ℕ) = b := by
  rw [resultIdx?_ix2, start_pair _ rfl rfl, start_pair _ rfl rfl, window_reg, window_reg, corner_at, corner_at]
  show (0 : Int) + ((i : ℕ) : Int) = _ ∧ (0 : Int) + ((j : ℕ) : Int) = _ ↔ _
  omega

theorem lands_out (i j : Fin 32) (a b : Fin 128) :
    scatter_S128x128_S2_S32x32_01_n_01_0.resultIdx? (ix2 i j) (corner 96#32) = some (ix2 a b)
      ↔ 96 + (i : ℕ) = a ∧ 96 + (j : ℕ) = b := by
  rw [resultIdx?_ix2, start_pair _ rfl rfl, start_pair _ rfl rfl, window_out, window_out, corner_at, corner_at]
  show (96 : Int) + ((i : ℕ) : Int) = _ ∧ (96 : Int) + ((j : ℕ) : Int) = _ ↔ _
  omega

theorem ix2_surj {R C : ℕ} (k : (shape2 R C).Idx) : ∃ i j, k = ix2 i j :=
  ⟨k 0, k 1, funext fun a => by fin_cases a <;> rfl⟩

theorem putReg_hit (x : T S128x128 .f32) (r : T S96x96 .f32) (i j : Fin 96) :
    putReg x r (ix2 (Row.reg i) (Row.reg j)) = r (ix2 i j) := by
  refine scatter_set_hit _ _ _ _ _ _ (fun k hk => ?_) (ix2 i j) ((lands_reg i j _ _).2 ⟨rfl, rfl⟩)
  obtain ⟨i', j', rfl⟩ := ix2_surj (R := 96) (C := 96) k
  obtain ⟨h1, h2⟩ := (lands_reg i' j' _ _).1 hk
  rw [Fin.ext (show (i' : ℕ) = i from h1), Fin.ext (show (j' : ℕ) = j from h2)]

theorem putReg_miss (x : T S128x128 .f32) (r : T S96x96 .f32) (a b : Fin 128) (h : 96 ≤ (a : ℕ) ∨ 96 ≤ (b : ℕ)) :
    putReg x r (ix2 a b) = x (ix2 a b) := by
  refine scatter_set_miss _ _ _ _ _ fun k hk => ?_
  obtain ⟨i', j', rfl⟩ := ix2_surj (R := 96) (C := 96) k
  have := (lands_reg i' j' _ _).1 hk
  omega

theorem putOut_hit (x : T S128x128 .f32) (o : T S32x32 .f32) (i j : Fin 32) :
    putOut x o (ix2 (Row.out i) (Row.out j)) = o (ix2 i j) := by
  refine scatter_set_hit _ _ _ _ _ _ (fun k hk => ?_) (ix2 i j) ((lands_out i j _ _).2 ⟨rfl, rfl⟩)
  obtain ⟨i', j', rfl⟩ := ix2_surj (R := 32) (C := 32) k
  obtain ⟨h1, h2⟩ := (lands_out i' j' _ _).1 hk
  rw [Fin.ext (Nat.add_left_cancel (show 96 + (i' : ℕ) = 96 + i from h1)), Fin.ext (Nat.add_left_cancel (show 96 + (j' : ℕ) = 96 + j from h2))]

theorem putOut_miss (x : T S128x128 .f32) (o : T S32x32 .f32) (a b : Fin 128) (h : (a : ℕ) < 96 ∨ (b : ℕ) < 96) :
    putOut x o (ix2 a b) = x (ix2 a b) := by
  refine scatter_set_miss _ _ _ _ _ fun k hk => ?_
  obtain ⟨i', j', rfl⟩ := ix2_surj (R := 32) (C := 32) k
  have := (lands_out i' j' _ _).1 hk
  omega

/-- The diagonal matrix has the two blocks and zeros elsewhere. -/
theorem diagonal_blocks (r : T S96x96 .f32) (o : T S32x32 .f32) :
    Row.Blocks (fun i j => diagonal r o (ix2 i j)) (fun i j => r (ix2 i j)) fun i j => o (ix2 i j) where
  reg_reg i j := (putOut_miss _ _ _ _ (.inl i.isLt)).trans (putReg_hit _ _ i j)
  out_out i j := putOut_hit _ _ i j
  reg_out i j := (putOut_miss _ _ _ _ (.inl i.isLt)).trans ((putReg_miss _ _ _ _ (.inr (Nat.le_add_right 96 j))).trans (zeros_at _ _))
  out_reg i j := (putOut_miss _ _ _ _ (.inr j.isLt)).trans ((putReg_miss _ _ _ _ (.inl (Nat.le_add_right 96 i))).trans (zeros_at _ _))

end Cert.KerHost

end
-- ==== Proof.KerArgs.lean ====
/-
  The kernel's host operations: what each operand of the kernel holds when the kernel starts.
-/
module

public import proofs.«01_k».proof.Proof.KerHost
public import Idealize.ShloMosaic.Lib.StableHlo.Run

@[expose] public section

set_option maxRecDepth 16384
set_option Elab.async false

noncomputable section

namespace Cert.KerHost

open Cert.KernelIdeal Cert.KernelIdeal.Gen Idealize.ShloMosaic Idealize.ShloMosaic.TcCoe Idealize.SL.Sem
open StableHlo

variable (m : (ℓ : Loc nD τ sig) → Buf (Elt Ideal) ℓ) (c : Dev nD)

set_option maxHeartbeats 4000000 in
/-- The kernel's first matrix: the rotations on the diagonal. -/
theorem rotations : V m c main_call0_v9 = diagonal (m ((c : Thread nD τ).loc main_arg1)) (m ((c : Thread nD τ).loc main_arg3)) := by
  simp only [V, V0, hostOps0, List.flatten_cons, List.flatten_nil, List.append_nil, TRef.binary, TRef.nullary, TRef.ternary, TRef.unary,
    TRef.reshape, TRef.toBuf, TRef.ofBuf, cast_eq]
  after_results_simp
  all_goals rfl

set_option maxHeartbeats 4000000 in
/-- The kernel's third matrix: the second stage's matrices on the diagonal. -/
theorem sketches : V m c main_call0_v18 = diagonal (m ((c : Thread nD τ).loc main_arg2)) (m ((c : Thread nD τ).loc main_arg4)) := by
  simp only [V, V0, hostOps0, List.flatten_cons, List.flatten_nil, List.append_nil, TRef.binary, TRef.nullary, TRef.ternary, TRef.unary,
    TRef.reshape, TRef.toBuf, TRef.ofBuf, cast_eq]
  after_results_simp
  all_goals rfl

set_option maxHeartbeats 4000000 in
/-- The kernel's second matrix: the first, transposed. -/
theorem rotations_t : V m c main_call0_v19
    = transpose S128x128 [1, 0] (diagonal (m ((c : Thread nD τ).loc main_arg1)) (m ((c : Thread nD τ).loc main_arg3)))
        transposes_S128x128_S128x128_1_0 := by
  simp only [V, V0, hostOps0, List.flatten_cons, List.flatten_nil, List.append_nil, TRef.binary, TRef.nullary, TRef.ternary, TRef.unary,
    TRef.reshape, TRef.toBuf, TRef.ofBuf, cast_eq]
  after_results_simp
  all_goals rfl

set_option maxHeartbeats 4000000 in
/-- The kernel's first operand: the argument, batch and head in one dimension. -/
theorem heads : V m c main_call0_v0
    = shapeCast S32x4096x128 (m ((c : Thread nD τ).loc main_arg0) : T S2x16x4096x128 .f32) shapeCasts_S2x16x4096x128_S32x4096x128 := by
  simp only [V, V0, hostOps0, List.flatten_cons, List.flatten_nil, List.append_nil, TRef.binary, TRef.nullary, TRef.ternary, TRef.unary,
    TRef.reshape, TRef.toBuf, TRef.ofBuf, cast_eq]
  after_results_simp
  all_goals rfl

end Cert.KerHost

end
-- ==== Proof.KerSplit.lean ====
/-
  The two reshapes around the kernel: batch `b` and head `h` of the argument are row `16 b + h` of the kernel's operand.
-/
module

public import proofs.«01_k».proof.Proof.Gen.KernelIdeal
public import Idealize.ShloMosaic.Lib.Pipeline.Value
public import Idealize.ShloMosaic.Lib.Pointwise

@[expose] public section

set_option maxRecDepth 16384

noncomputable section

namespace Cert.KerSplit

open Cert.KernelIdeal Cert.KernelIdeal.Gen Idealize.ShloMosaic

/-- Batch `b` and head `h` in one number. -/
def both (b : Fin 2) (h : Fin 16) : Fin 32 := ⟨16 * b + h, by omega⟩

theorem same_place (b : Fin 2) (h : Fin 16) (n : Fin 4096) (j : Fin 128) :
    (S2x16x4096x128.rowMajor (ix4 b h n j)).val = (S32x4096x128.rowMajor (ix3 (both b h) n j)).val := by
  rw [Shape.rowMajor_val_four, Shape.rowMajor_val_three]
  show ((b.val * 16 + h.val) * 4096 + n.val) * 128 + j.val = ((16 * b.val + h.val) * 4096 + n.val) * 128 + j.val
  rw [Nat.mul_comm b.val 16]

theorem joined_at (x : S2x16x4096x128.Idx → EReal) (b : Fin 2) (h : Fin 16) (n : Fin 4096) (j : Fin 128) :
    shapeCast S32x4096x128 x shapeCasts_S2x16x4096x128_S32x4096x128 (ix3 (both b h) n j) = x (ix4 b h n j) :=
  shapeCast_apply x _ _ _ (same_place b h n j)

theorem split_at (x : S32x4096x128.Idx → EReal) (b : Fin 2) (h : Fin 16) (n : Fin 4096) (j : Fin 128) :
    shapeCast S2x16x4096x128 x shapeCasts_S32x4096x128_S2x16x4096x128 (ix4 b h n j) = x (ix3 (both b h) n j) :=
  shapeCast_apply x _ _ _ (same_place b h n j).symm

end Cert.KerSplit

end
-- ==== Proof.KerRun.lean ====
/-
  The kernel's run: each grid point writes back one head's block, the blocks make up the result array, and the last
  reshape parts its first dimension into batch and head.
-/
module

public import proofs.«01_k».proof.Proof.KerRow
public import proofs.«01_k».proof.Proof.KerArgs
public import proofs.«01_k».proof.Proof.KerSplit
public import Idealize.ShloMosaic.Lib.Pipeline.ValueKit.Geometry
public import Idealize.ShloMosaic.Lib.StableHlo.Run

@[expose] public section

set_option maxRecDepth 16384

noncomputable section

namespace Cert.KerRun

open Cert.KernelIdeal Cert.KernelIdeal.Gen Idealize.ShloMosaic Idealize.ShloMosaic.TcCoe Idealize.SL.Sem
open Idealize.ShloMosaic.Pipeline (Dat)
open Cert.KerRow (mat)
open Cert.KerHost (T diagonal)

variable (m : (ℓ : Loc nD τ sig) → Buf (Elt Ideal) ℓ) (ρ : Dev nD → PrngReg) (c : Dev nD)

/-- The arguments as arrays. -/
abbrev argX : T S2x16x4096x128 .f32 := m ((c : Thread nD τ).loc main_arg0)
abbrev argR : T S96x96 .f32 := m ((c : Thread nD τ).loc main_arg1)
abbrev argS : T S96x96 .f32 := m ((c : Thread nD τ).loc main_arg2)
abbrev argR' : T S32x32 .f32 := m ((c : Thread nD τ).loc main_arg3)
abbrev argS' : T S32x32 .f32 := m ((c : Thread nD τ).loc main_arg4)

/-- The head in row `t` of the kernel's first operand. -/
def operand (t : Fin 32) (n : Fin 4096) (j : Fin 128) : EReal := (V m c main_call0_v0 : T S32x4096x128 .f32) (ix3 t n j)

/-- The array that the kernel fills: in each row its head's value. -/
def filled : T S32x4096x128 .f32 := fun i =>
  Head.value (operand m c (i 0)) (fun a b => argR m c (ix2 a b)) (fun a b => argS m c (ix2 a b)) (fun a b => argR' m c (ix2 a b))
    (fun a b => argS' m c (ix2 a b)) (i 1) (i 2)

theorem index_0 : ∀ t : Fin cfg0.N, win0_0.index t = ![t.val, 0, 0] :=
  (by decide +kernel : ∀ t : Fin grid0.N, win0_0.index t = ![t.val, 0, 0])
theorem index_1 : ∀ t : Fin cfg0.N, win0_1.index t = ![0, 0] :=
  (by decide +kernel : ∀ t : Fin grid0.N, win0_1.index t = ![0, 0])
theorem index_2 : ∀ t : Fin cfg0.N, win0_2.index t = ![0, 0] :=
  (by decide +kernel : ∀ t : Fin grid0.N, win0_2.index t = ![0, 0])
theorem index_3 : ∀ t : Fin cfg0.N, win0_3.index t = ![0, 0] :=
  (by decide +kernel : ∀ t : Fin grid0.N, win0_3.index t = ![0, 0])
theorem index_4 : ∀ t : Fin cfg0.N, win0_4.index t = ![t.val, 0, 0] :=
  (by decide +kernel : ∀ t : Fin grid0.N, win0_4.index t = ![t.val, 0, 0])

theorem N_32 : cfg0.N = 32 := N_0

theorem block_0 (t : Fin cfg0.N) (n : Fin 4096) (j : Fin 128) :
    (iblk m c 0 t : Vec Ideal S1x4096x128 .f32) (ix3 0 n j) = operand m c (t.cast N_32) n j := by
  blk_simp [iblk]
  refine congrArg (V m c main_call0_v0) ?_
  blk_ext [index_0, Fin.val_cast]

theorem block_1 (t : Fin cfg0.N) (i j : Fin 128) :
    (iblk m c 1 t : Vec Ideal S128x128 .f32) (ix2 i j) = (V m c main_call0_v9 : T S128x128 .f32) (ix2 i j) := by
  blk_simp [iblk]
  refine congrArg (V m c main_call0_v9) ?_
  blk_ext [index_1]

theorem block_2 (t : Fin cfg0.N) (i j : Fin 128) :
    (iblk m c 2 t : Vec Ideal S128x128 .f32) (ix2 i j) = (V m c main_call0_v19 : T S128x128 .f32) (ix2 i j) := by
  blk_simp [iblk]
  refine congrArg (V m c main_call0_v19) ?_
  blk_ext [index_2]

theorem block_3 (t : Fin cfg0.N) (i j : Fin 128) :
    (iblk m c 3 t : Vec Ideal S128x128 .f32) (ix2 i j) = (V m c main_call0_v18 : T S128x128 .f32) (ix2 i j) := by
  blk_simp [iblk]
  refine congrArg (V m c main_call0_v18) ?_
  blk_ext [index_3]

theorem ix2_eq {a b : ℕ} (i : Fin a) (j : Fin b) : ValueIdx.ix2 i j = (ix2 i j : (⟨2, ![a, b]⟩ : Shape).Idx) :=
  funext fun q => by fin_cases q <;> rfl

/-- A diagonal matrix's blocks. -/
theorem diagonal_blocks (r : T S96x96 .f32) (o : T S32x32 .f32) :
    Row.Blocks (fun i j => diagonal r o (ix2 i j)) (fun i j => r (ix2 i j)) fun i j => o (ix2 i j) := by
  have h := KerHost.diagonal_blocks r o
  simp only [ix2_eq] at h
  exact h

theorem blocks_1 (t : Fin cfg0.N) :
    Row.Blocks (mat (iblk m c 1 t)) (fun a b => argR m c (ix2 a b)) fun a b => argR' m c (ix2 a b) := by
  have e : mat (iblk m c 1 t) = fun i j => diagonal (argR m c) (argR' m c) (ix2 i j) :=
    funext fun i => funext fun j => (block_1 m c t i j).trans (congrFun (KerHost.rotations m c) (ix2 i j))
  rw [e]
  exact diagonal_blocks _ _

theorem blocks_2 (t : Fin cfg0.N) :
    Row.Blocks (mat (iblk m c 2 t)) (fun a b => argR m c (ix2 b a)) fun a b => argR' m c (ix2 b a) := by
  have e : mat (iblk m c 2 t) = fun i j => diagonal (argR m c) (argR' m c) (ix2 j i) :=
    funext fun i => funext fun j => ((block_2 m c t i j).trans (congrFun (KerHost.rotations_t m c) (ix2 i j))).trans (by pointwise)
  rw [e]
  exact (diagonal_blocks _ _).swap

theorem blocks_3 (t : Fin cfg0.N) :
    Row.Blocks (mat (iblk m c 3 t)) (fun a b => argS m c (ix2 a b)) fun a b => argS' m c (ix2 a b) := by
  have e : mat (iblk m c 3 t) = fun i j => diagonal (argS m c) (argS' m c) (ix2 i j) :=
    funext fun i => funext fun j => (block_3 m c t i j).trans (congrFun (KerHost.sketches m c) (ix2 i j))
  rw [e]
  exact diagonal_blocks _ _

/-- What the body leaves at a grid point, at an entry. -/
theorem left_at (t : Fin cfg0.N) (n : Fin 4096) (j : Fin 128) :
    out0_4 (iblk m c 0 t) (iblk m c 1 t) (iblk m c 2 t) (iblk m c 3 t) (ix3 0 n j) = filled m c (ix3 (t.cast N_32) n j) := by
  refine (KerRow.block_at _ _ _ _ (blocks_1 m c t) (blocks_2 m c t) (blocks_3 m c t) n j).trans ?_
  have e : KerOrder.rows (iblk m c 0 t) = operand m c (t.cast N_32) := funext fun n => funext fun j => block_0 m c t n j
  rw [e]
  rfl

theorem filled_eq : (dats m 0 c).arrAt 4 cfg0.N = filled m c := by
  refine (dats m 0 c).arrAt_eq_of_covers 4 _ (by decide +kernel) fun t _ y => ?_
  blk_simp
  rw [after0_4]
  obtain ⟨n, j, rfl⟩ : ∃ (n : Fin 4096) (j : Fin 128), y = (ix3 0 n j : S1x4096x128.Idx) := by
    refine ⟨y 1, y 2, funext fun a => ?_⟩
    fin_cases a
    · exact Subsingleton.elim (α := Fin 1) _ _
    · rfl
    · rfl
  refine (left_at m c t n j).trans (congrArg (filled m c) ?_)
  blk_ext [index_4, Fin.val_cast]

/-- The result array after the run. -/
def output : T S2x16x4096x128 .f32 := shapeCast S2x16x4096x128 (filled m c) shapeCasts_S32x4096x128_S2x16x4096x128

theorem array_ne : Function.Injective (Pipeline.arrRef spec0) := by decide

theorem tail_eq : Pipeline.afterTail₀ cfgs (dats m) 0 (V0 m) [hostOps1] c main_v0 = output m c := by
  unfold Pipeline.afterTail₀
  simp only [hostOps1, List.flatten_cons, List.flatten_nil, List.append_nil, StableHlo.TRef.reshape, StableHlo.TRef.toBuf, StableHlo.TRef.ofBuf, cast_eq]
  after_results_simp
  refine congrArg (fun v : T S32x4096x128 .f32 => shapeCast S2x16x4096x128 v shapeCasts_S32x4096x128_S2x16x4096x128) ?_
  exact (Pipeline.withArrays_arr spec0 array_ne c (V0 m c) _ 4).trans (filled_eq m c)

/-- The kernel ends with `output`, its arguments unchanged. -/
theorem run : θ_run defs (onTc (τ := τ) (main (F := Ideal))) ⟨m, fun _ => 0, ρ⟩ fun r => ∀ c : Dev nD,
      r.2.mem ((c : Thread nD τ).loc main_v0) = output m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

theorem operand_eq (b : Fin 2) (h : Fin 16) :
    operand m c (KerSplit.both b h) = fun n j => argX m c (ix4 b h n j) :=
  funext fun n => funext fun j => (congrFun (KerHost.heads m c) _).trans (KerSplit.joined_at (argX m c) b h n j)

/-- The kernel's result at an entry. -/
theorem output_at (b : Fin 2) (h : Fin 16) (n : Fin 4096) (j : Fin 128) :
    output m c (ix4 b h n j)
      = Head.value (fun n j => argX m c (ix4 b h n j)) (fun a b => argR m c (ix2 a b)) (fun a b => argS m c (ix2 a b))
          (fun a b => argR' m c (ix2 a b)) (fun a b => argS' m c (ix2 a b)) n j := by
  refine (KerSplit.split_at (filled m c) b h n j).trans ?_
  rw [← operand_eq]
  rfl

end Cert.KerRun

end
-- ==== Proof.Finite.lean ====
/-
  The precondition read: where it holds, every entry of both rotations is a real number.
-/
module

public import proofs.«01_k».proof.Pre_rotations_finite
public import proofs.«01_k».proof.Proof.Row
public import Idealize.ShloMosaic.Lib.ReduceAll
public import Idealize.ShloMosaic.Lib.Affine

@[expose] public section

noncomputable section

namespace Cert.Finite

open Cert.Pre_rotations_finite Idealize.ShloMosaic

theorem real_of_abs_lt (v : EReal) (h : Ideal.cmp .olt (max v (-v)) (Ideal.ofBits .f32 0x7F800000#32) = 1#1) : ∃ r : ℝ, v = r := by
  have ht : Ideal.ofBits .f32 0x7F800000#32 = ⊤ := by simp [Ideal.ofBits, Ideal.ieee]
  rw [ht] at h
  induction v using EReal.rec with
  | bot => simp [Ideal.cmp] at h
  | top => simp [Ideal.cmp] at h
  | coe r => exact ⟨r, rfl⟩

/-- The result of the precondition's last operation has one index. -/
theorem one_index : Subsingleton S_.Idx := ⟨fun _ _ => funext fun a => a.elim0⟩

variable [Facts]

theorem rotations_real (x : FVec Ideal S2x16x4096x128 .f32) (r s : FVec Ideal S96x96 .f32) (r' s' : FVec Ideal S32x32 .f32)
    (h : fn x r s r' s' = fun _ => 1#1) : (∀ i, ∃ v : ℝ, r i = v) ∧ ∀ i, ∃ v : ℝ, r' i = v := by
  have h0 := congrFun h (Shape.Idx.first Facts.h_S_)
  dsimp only [fn] at h0
  have := one_index
  obtain ⟨h1, h2⟩ := IntOp.andi_eq_one.1 h0
  exact ⟨fun i => real_of_abs_lt _ (Host.reduce_andi_all _ _ _ _ _ h1 i), fun i => real_of_abs_lt _ (Host.reduce_andi_all _ _ _ _ _ h2 i)⟩

end Cert.Finite

end
-- ==== Proof.lean ====
/-
  The claims about the two-stage quantiser kernel. The kernel's run is `KerRun.run`, the reference's `RefRun.run`; both
  results are `Head.value` of the arguments, at every entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rotations_finite
public import proofs.«01_k».proof.Proof.RefOrder
public import proofs.«01_k».proof.Proof.KerRun
public import proofs.«01_k».proof.Proof.Finite
public import Idealize.ShloMosaic.Lib.Quiescent

@[expose] public section

noncomputable section

namespace Cert.Proof

open Idealize.ShloMosaic Idealize.ShloMosaic.TcCoe Idealize.SL.Sem

/-- The reference runs and leaves its arguments as they were; it has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.RefRun.run (F := Ideal) m ρ)

/-- Each named constant stands where its own nearest 32-bit number stood. -/
theorem preserves : Cert.preserves_Kernel_KernelIdeal :=
  ⟨IdealRules.named_const.statement Cert.KernelIdeal.κ "k_reg" .f32 0x3C55E621#32
      ((10513561 / 805306368 : ℝ) : EReal) rfl,
    IdealRules.named_const.statement Cert.KernelIdeal.κ "k_out" .f32 0x3D206C99#32
      ((10513561 / 268435456 : ℝ) : EReal) rfl⟩

/-- Every index of the result is a batch, a head, a row and a channel. -/
theorem index_eq (i : Cert.ReferenceIdeal.S2x16x4096x128.Idx) : ∃ (b : Fin 2) (h : Fin 16) (n : Fin 4096) (j : Fin 128), i = ix4 b h n j :=
  ⟨i 0, i 1, i 2, i 3, funext fun a => by fin_cases a <;> rfl⟩

/-- On finite rotations the reference's result is the kernel's. -/
theorem same (m : (ℓ : Loc Cert.KernelIdeal.nD Cert.KernelIdeal.τ Cert.KernelIdeal.sig) → Buf (Elt Ideal) ℓ)
    (c : Dev Cert.KernelIdeal.nD) (hr : ∀ i, ∃ v : ℝ, Cert.KerRun.argR m c i = v) (ho : ∀ i, ∃ v : ℝ, Cert.KerRun.argR' m c i = v) :
    Cert.RefRun.result (F := Ideal) (Cert.KerRun.argX m c) (Cert.KerRun.argR m c) (Cert.KerRun.argS m c) (Cert.KerRun.argR' m c)
      (Cert.KerRun.argS' m c) = Cert.KerRun.output m c := by
  funext i
  obtain ⟨b, h, n, j, rfl⟩ := index_eq i
  exact (Cert.RefOrder.result_at _ _ _ _ _ (fun i j => hr _) (fun i j => ho _) b h n j).trans (Cert.KerRun.output_at m c b h n j).symm

/-- On finite rotations the kernel and the reference end with equal results. -/
theorem algebraic : Cert.algebraic_KernelIdeal_ReferenceIdeal_pre_rotations_finite
    (hKernelIdeal := Cert.KernelIdeal.Gen.facts) (hReferenceIdeal := Cert.ReferenceIdeal.Gen.facts)
    (hPre_rotations_finite := Cert.Pre_rotations_finite.Gen.facts) := by
  intro m g m' g' hpre hargs
  refine ⟨fun c => Cert.KerRun.output m c, Cert.KerRun.run m g, ?_⟩
  refine (θ_run Cert.ReferenceIdeal.defs _ _).mono (fun r h c => ⟨(h c).1.trans ?_, (h c).2⟩) (Cert.RefRun.run (F := Ideal) m' g')
  obtain ⟨h0, h1, h2, h3, h4⟩ := hargs c
  obtain ⟨hr, ho⟩ := Cert.Finite.rotations_real _ _ _ _ _ (hpre c)
  rw [h0, h1, h2, h3, h4]
  exact same m c hr ho

theorem claim : Cert.Claim :=
  ⟨Cert.Kernel.Gen.facts, Cert.KernelIdeal.Gen.facts, Cert.ReferenceIdeal.Gen.facts, Cert.Pre_rotations_finite.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, preserves, algebraic⟩

end Cert.Proof

end
